-- ==== Defs.lean ====
def Pre_Kernel [hPre_actors_named : Cert.Pre_actors_named.Facts] (m : (ℓ : Loc Cert.Kernel.nD Cert.Kernel.τ Cert.Kernel.sig) → Buf (Elt Bits) ℓ) : Prop :=
  ∀ c : Dev Cert.Kernel.nD,
    (Cert.Pre_actors_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_actors_named : Cert.Pre_actors_named.Facts] (m : (ℓ : Loc Cert.KernelIdeal.nD Cert.KernelIdeal.τ Cert.KernelIdeal.sig) → Buf (Elt Ideal) ℓ) : Prop :=
  ∀ c : Dev Cert.KernelIdeal.nD,
    (Cert.Pre_actors_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs_ranged [hPre_inputs_ranged : Cert.Pre_inputs_ranged.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ranged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ranged [hPre_inputs_ranged : Cert.Pre_inputs_ranged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ranged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_actors_named : Cert.Pre_actors_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_actors_named : Cert.Pre_actors_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ranged [hKernelIdeal : Cert.KernelIdeal.Facts] [hPre_inputs_ranged : Cert.Pre_inputs_ranged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ranged m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ranged [hReferenceIdeal : Cert.ReferenceIdeal.Facts] [hPre_inputs_ranged : Cert.Pre_inputs_ranged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ranged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ranged [hKernelIdeal : Cert.KernelIdeal.Facts] [hReferenceIdeal : Cert.ReferenceIdeal.Facts] [hPre_inputs_ranged : Cert.Pre_inputs_ranged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ranged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg3)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg3) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg3) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_actors_named : Cert.Pre_actors_named.Facts) (hPre_inputs_ranged : Cert.Pre_inputs_ranged.Facts),
    quiescent_Kernel (hKernel := hKernel) (hPre_actors_named := hPre_actors_named)
    ∧ quiescent_KernelIdeal (hKernelIdeal := hKernelIdeal) (hPre_actors_named := hPre_actors_named)
    ∧ quiescent_KernelIdeal_pre_inputs_ranged (hKernelIdeal := hKernelIdeal) (hPre_inputs_ranged := hPre_inputs_ranged)
    ∧ quiescent_ReferenceIdeal (hReferenceIdeal := hReferenceIdeal)
    ∧ quiescent_ReferenceIdeal_pre_inputs_ranged (hReferenceIdeal := hReferenceIdeal) (hPre_inputs_ranged := hPre_inputs_ranged)
    ∧ preserves_Kernel_KernelIdeal
    ∧ algebraic_KernelIdeal_ReferenceIdeal_pre_inputs_ranged (hKernelIdeal := hKernelIdeal) (hReferenceIdeal := hReferenceIdeal) (hPre_inputs_ranged := hPre_inputs_ranged)
-- ==== Pre_actors_named.lean ====
abbrev S131072x256 : Shape := ⟨2, ![131072, 256]⟩
abbrev S65536 : Shape := ⟨1, ![65536]⟩
abbrev S65536x64 : Shape := ⟨2, ![65536, 64]⟩
abbrev S64x256 : Shape := ⟨2, ![64, 256]⟩
abbrev S64 : Shape := ⟨1, ![64]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S131072x256 .f32) (main_arg1 : IVec S65536 32) (main_arg2 : IVec S65536x64 32) (main_arg3 : IVec S65536 32) (main_arg4 : FVec F S64x256 .f32) (main_arg5 : FVec F S64 .f32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 131072#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Pre_inputs_ranged.lean ====
abbrev S131072x256 : Shape := ⟨2, ![131072, 256]⟩
abbrev S65536 : Shape := ⟨1, ![65536]⟩
abbrev S65536x64 : Shape := ⟨2, ![65536, 64]⟩
abbrev S64x256 : Shape := ⟨2, ![64, 256]⟩
abbrev S64 : Shape := ⟨1, ![64]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x256 .f32) (main_arg5 : FVec F S64 .f32) (main_v12 : IVec S_ 1) (main_v15 : IVec S131072x256 1) (main_c_5 : IVec S_ 1) : IVec S_ 1 :=
  let main_v16 : IVec S_ 1 := (fun x v => Host.reduce IntOp.andi x v reducesTo_S131072x256_S_d0_1 h_S_) main_v15 main_c_5
  let main_v17 : IVec S_ 1 := andi main_v12 main_v16
  let main_v18 : FVec F S64x256 .f32 := Host.absf main_arg4
  let main_cst_6 : FVec F S_ .f32 := constant S_ .f32 0x7F800000#32
  let main_v19 : FVec F S64x256 .f32 := broadcastInDim S64x256 ![] bcast_S_S64x256 main_cst_6
  let main_v20 : IVec S64x256 1 := cmpf .olt main_v18 main_v19
  let main_c_7 : IVec S_ 1 := constantI S_ 1 1#1
  let main_v21 : IVec S_ 1 := (fun x v => Host.reduce IntOp.andi x v reducesTo_S64x256_S_d0_1 h_S_) main_v20 main_c_7
  let main_v22 : IVec S_ 1 := andi main_v17 main_v21
  let main_v23 : FVec F S64 .f32 := Host.absf main_arg5
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  main_v27

def fn {F : FTy → Type} [FloatOps F] (main_arg0 : FVec F S131072x256 .f32) (main_arg1 : IVec S65536 32) (main_arg2 : IVec S65536x64 32) (main_arg3 : IVec S65536 32) (main_arg4 : FVec F S64x256 .f32) (main_arg5 : FVec F S64 .f32) : IVec S_ 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 131072#32
  let main_v2 : IVec S65536 32 := broadcastInDim S65536 ![] bcast_S_S65536 main_c_0
  let main_v3 : IVec S65536 1 := cmpi .slt main_arg1 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  let main_c_2 : IVec S_ 32 := constantI S_ 32 0#32
  let main_v6 : IVec S65536 32 := broadcastInDim S65536 ![] bcast_S_S65536 main_c_2
  let main_v7 : IVec S65536 1 := cmpi .sge main_arg3 main_v6
  let main_c_3 : IVec S_ 32 := constantI S_ 32 64#32
  let main_v8 : IVec S65536 32 := broadcastInDim S65536 ![] bcast_S_S65536 main_c_3
  let main_v9 : IVec S65536 1 := cmpi .slt main_arg3 main_v8
  let main_v10 : IVec S65536 1 := andi main_v7 main_v9
  let main_c_4 : IVec S_ 1 := constantI S_ 1 1#1
  let main_v11 : IVec S_ 1 := (fun x v => Host.reduce IntOp.andi x v reducesTo_S65536_S_d0 h_S_) main_v10 main_c_4
  let main_v12 : IVec S_ 1 := andi main_v5 main_v11
  let main_v13 : FVec F S131072x256 .f32 := Host.absf main_arg0
  let main_cst : FVec F S_ .f32 := constant S_ .f32 0x7F800000#32
  let main_v14 : FVec F S131072x256 .f32 := broadcastInDim S131072x256 ![] bcast_S_S131072x256 main_cst
  let main_v15 : IVec S131072x256 1 := cmpf .olt main_v13 main_v14
  let main_c_5 : IVec S_ 1 := constantI S_ 1 1#1
  fn_part1 (F := F) main_arg4 main_arg5 main_v12 main_v15 main_c_5
-- ==== Kernel.lean ====
abbrev S131072x256 : Shape := ⟨2, ![131072, 256]⟩
abbrev S65536 : Shape := ⟨1, ![65536]⟩
abbrev S65536x64 : Shape := ⟨2, ![65536, 64]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S65536x128 : Shape := ⟨2, ![65536, 128]⟩
abbrev S8192x256 : Shape := ⟨2, ![8192, 256]⟩
abbrev S4096x128 : Shape := ⟨2, ![4096, 128]⟩
abbrev S8192x64 : Shape := ⟨2, ![8192, 64]⟩
abbrev S4096x64 : Shape := ⟨2, ![4096, 64]⟩
abbrev S_ : Shape := ⟨0, ![]⟩
abbrev S1x65536 : Shape := ⟨2, ![1, 65536]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S64x65536 : Shape := ⟨2, ![64, 65536]⟩
abbrev S8192x128 : Shape := ⟨2, ![8192, 128]⟩
abbrev S64x8192 : Shape := ⟨2, ![64, 8192]⟩
abbrev S8192 : Shape := ⟨1, ![8192]⟩
abbrev S128x8192 : Shape := ⟨2, ![128, 8192]⟩
abbrev S1x8192 : Shape := ⟨2, ![1, 8192]⟩

abbrev nBuf : Table → Nat
  | .hbm => 101
  | .local .tc .vmem => 20
  | .local .scVector .vmem => 2
  | _ => 0

abbrev bufTy : (tb : Table) → Fin (nBuf tb) → BufTy
  | .hbm, ⟨0, _⟩ => ⟨S131072x256, .f32⟩
  | .hbm, ⟨1, _⟩ => ⟨S65536, .i32⟩
  | .hbm, ⟨2, _⟩ => ⟨S65536x64, .i32⟩
  | .hbm, ⟨3, _⟩ => ⟨S65536, .i32⟩
  | .hbm, ⟨4, _⟩ => ⟨S64x256, .f32⟩
  | .hbm, ⟨5, _⟩ => ⟨S64, .f32⟩
  | .hbm, ⟨6, _⟩ => ⟨S256x64, .f32⟩
  | .hbm, ⟨7, _⟩ => ⟨S256x64, .bf16⟩
  | .hbm, ⟨8, _⟩ => ⟨S1x64, .f32⟩
  | .hbm, ⟨9, _⟩ => ⟨S65536x128, .f32⟩
  | .hbm, ⟨10, _⟩ => ⟨S_, .i32⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S65536, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S_, .i1⟩
  | .hbm, ⟨47, _⟩ => ⟨S65536, .i1⟩
  | .hbm, ⟨48, _⟩ => ⟨S65536, .i1⟩
  | .hbm, ⟨49, _⟩ => ⟨S65536, .i1⟩
  | .hbm, ⟨50, _⟩ => ⟨S65536, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S_, .i32⟩
  | .hbm, ⟨63, _⟩ => ⟨S65536, .i32⟩
  | .hbm, ⟨64, _⟩ => ⟨S65536, .i1⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S_, .i1⟩
  | .hbm, ⟨70, _⟩ => ⟨S65536, .i1⟩
  | .hbm, ⟨71, _⟩ => ⟨S65536, .i1⟩
  | .hbm, ⟨72, _⟩ => ⟨S65536, .i1⟩
  | .hbm, ⟨73, _⟩ => ⟨S65536, .i32⟩
  | .hbm, ⟨74, _⟩ => ⟨S65536, .i32⟩
  | .hbm, ⟨75, _⟩ => ⟨S65536, .i32⟩
  | .hbm, ⟨76, _⟩ => ⟨S_, .i32⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S_, .i32⟩
  | .hbm, ⟨82, _⟩ => ⟨S65536, .i32⟩
  | .hbm, ⟨83, _⟩ => ⟨S65536, .i1⟩
  | .hbm, ⟨84, _⟩ => ⟨S65536, .i32⟩
  | .hbm, ⟨85, _⟩ => ⟨S65536, .i32⟩
  | .hbm, ⟨86, _⟩ => ⟨S_, .i32⟩
  | .hbm, ⟨87, _⟩ => ⟨S65536, .i32⟩
  | .hbm, ⟨88, _⟩ => ⟨S65536, .i1⟩
  | .hbm, ⟨89, _⟩ => ⟨S65536, .i1⟩
  | .hbm, ⟨90, _⟩ => ⟨S_, .i32⟩
  | .hbm, ⟨91, _⟩ => ⟨S65536, .i32⟩
  | .hbm, ⟨92, _⟩ => ⟨S65536, .i32⟩
  | .hbm, ⟨93, _⟩ => ⟨S65536, .i32⟩
  | .hbm, ⟨94, _⟩ => ⟨S1x65536, .i32⟩
  | .hbm, ⟨95, _⟩ => ⟨S65536x128, .f32⟩
  | .hbm, ⟨96, _⟩ => ⟨S64x65536, .i32⟩
  | .hbm, ⟨97, _⟩ => ⟨S64x65536, .f32⟩
  | .hbm, ⟨98, _⟩ => ⟨S65536, .f32⟩
  | .hbm, ⟨99, _⟩ => ⟨S65536, .f32⟩
  | .hbm, ⟨100, _⟩ => ⟨S65536x64, .f32⟩
  | .local .tc .vmem, ⟨0, _⟩ => ⟨S8192x256, .f32⟩
  | .local .tc .vmem, ⟨1, _⟩ => ⟨S8192x256, .f32⟩
  | .local .tc .vmem, ⟨2, _⟩ => ⟨S256x64, .bf16⟩
  | .local .tc .vmem, ⟨3, _⟩ => ⟨S1x64, .f32⟩
  | .local .tc .vmem, ⟨4, _⟩ => ⟨S4096x128, .f32⟩
  | .local .tc .vmem, ⟨5, _⟩ => ⟨S4096x128, .f32⟩
  | .local .tc .vmem, ⟨6, _⟩ => ⟨S8192x128, .f32⟩
  | .local .tc .vmem, ⟨7, _⟩ => ⟨S8192x128, .f32⟩
  | .local .tc .vmem, ⟨8, _⟩ => ⟨S64x8192, .i32⟩
  | .local .tc .vmem, ⟨9, _⟩ => ⟨S64x8192, .i32⟩
  | .local .tc .vmem, ⟨10, _⟩ => ⟨S8192, .i32⟩
  | .local .tc .vmem, ⟨11, _⟩ => ⟨S8192, .i32⟩
  | .local .tc .vmem, ⟨12, _⟩ => ⟨S8192, .i32⟩
  | .local .tc .vmem, ⟨13, _⟩ => ⟨S8192, .i32⟩
  | .local .tc .vmem, ⟨14, _⟩ => ⟨S64x8192, .f32⟩
  | .local .tc .vmem, ⟨15, _⟩ => ⟨S64x8192, .f32⟩
  | .local .tc .vmem, ⟨16, _⟩ => ⟨S8192, .f32⟩
  | .local .tc .vmem, ⟨17, _⟩ => ⟨S8192, .f32⟩
  | .local .tc .vmem, ⟨18, _⟩ => ⟨S8192, .f32⟩
  | .local .tc .vmem, ⟨19, _⟩ => ⟨S8192, .f32⟩
  | .local .scVector .vmem, ⟨0, _⟩ => ⟨S2x1x256, .i32⟩
  | .local .scVector .vmem, ⟨1, _⟩ => ⟨S2x256x128, .f32⟩
  | _, _ => ⟨S131072x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v7 : Ref sig .tc := ⟨.hbm, 52, rfl⟩
abbrev main_v8 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v9 : Ref sig .tc := ⟨.hbm, 75, rfl⟩
abbrev main_c_3 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14_0 : Ref sig .tc := ⟨.hbm, 97, rfl⟩
abbrev main_v14_1 : Ref sig .tc := ⟨.hbm, 98, rfl⟩
abbrev main_v14_2 : Ref sig .tc := ⟨.hbm, 99, rfl⟩
abbrev main_v15 : Ref sig .tc := ⟨.hbm, 100, rfl⟩
abbrev main_v3_scv : Ref sig .scVector := ⟨.hbm, 9, rfl⟩
abbrev main_v11_scv : Ref sig .scVector := ⟨.hbm, 94, rfl⟩
abbrev main_v12_scv : Ref sig .scVector := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S256x128.size a ≤ S65536x128.size a)
theorem k1_off19_inb : ∀ (i : grid1.Coords) (v33_4_r0 : BitVec 32) (k1_hw5 : k1_chk5 i v33_4_r0), ∀ a, (k1_off19 i v33_4_r0) a + S256x128.size a ≤ S65536x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 1 → Nat :=
  let arg0 : BitVec 32 := BitVec.ofNat 32 (i 0).val
  let c0_i32 : BitVec 32 := 0#32
  ![arg0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8192 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x256 : Shape := ⟨2, ![131072, 256]⟩
abbrev S65536 : Shape := ⟨1, ![65536]⟩
abbrev S65536x64 : Shape := ⟨2, ![65536, 64]⟩
abbrev S64x256 : Shape := ⟨2, ![64, 256]⟩
abbrev S64 : Shape := ⟨1, ![64]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x256 : Shape := ⟨2, ![65536, 256]⟩
abbrev S256x64 : Shape := ⟨2, ![256, 64]⟩
abbrev S1x64 : Shape := ⟨2, ![1, 64]⟩
abbrev S65536x1x1 : Shape := ⟨3, ![65536, 1, 1]⟩
abbrev S1x1x1 : Shape := ⟨3, ![1, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S65536, .i32⟩
  | .hbm, ⟨2, _⟩ => ⟨S65536x64, .i32⟩
  | .hbm, ⟨3, _⟩ => ⟨S65536, .i32⟩
  | .hbm, ⟨4, _⟩ => ⟨S64x256, .f32⟩
  | .hbm, ⟨5, _⟩ => ⟨S64, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S1, .i32⟩
  | .hbm, ⟨15, _⟩ => ⟨S_, .i32⟩
  | .hbm, ⟨16, _⟩ => ⟨S65536x1, .i32⟩
  | .hbm, ⟨17, _⟩ => ⟨S65536x1, .i1⟩
  | .hbm, ⟨18, _⟩ => ⟨S1x1, .i32⟩
  | .hbm, ⟨19, _⟩ => ⟨S65536x1, .i32⟩
  | .hbm, ⟨20, _⟩ => ⟨S65536x1, .i1⟩
  | .hbm, ⟨21, _⟩ => ⟨S65536x1, .i1⟩
  | .hbm, ⟨22, _⟩ => ⟨S_, .i1⟩
  | .hbm, ⟨23, _⟩ => ⟨S65536, .i1⟩
  | .hbm, ⟨24, _⟩ => ⟨S65536x256, .f32⟩
  | .hbm, ⟨25, _⟩ => ⟨S65536x256, .i1⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S256x64, .f32⟩
  | .hbm, ⟨30, _⟩ => ⟨S65536x64, .f32⟩
  | .hbm, ⟨31, _⟩ => ⟨S1x64, .f32⟩
  | .hbm, ⟨32, _⟩ => ⟨S65536x64, .f32⟩
  | .hbm, ⟨33, _⟩ => ⟨S65536x64, .f32⟩
  | .hbm, ⟨34, _⟩ => ⟨S_, .i32⟩
  | .hbm, ⟨35, _⟩ => ⟨S65536x64, .i32⟩
  | .hbm, ⟨36, _⟩ => ⟨S65536x64, .i1⟩
  | .hbm, ⟨37, _⟩ => ⟨S_, .f32⟩
  | .hbm, ⟨38, _⟩ => ⟨S_, .f32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .f32⟩
  | .hbm, ⟨46, _⟩ => ⟨S65536x1, .f32⟩
  | .hbm, ⟨47, _⟩ => ⟨S65536x64, .f32⟩
  | .hbm, ⟨48, _⟩ => ⟨S65536x64, .f32⟩
  | .hbm, ⟨49, _⟩ => ⟨S65536x64, .f32⟩
  | .hbm, ⟨50, _⟩ => ⟨S_, .f32⟩
  | .hbm, ⟨51, _⟩ => ⟨S65536, .f32⟩
  | .hbm, ⟨52, _⟩ => ⟨S65536x1, .f32⟩
  | .hbm, ⟨53, _⟩ => ⟨S65536x1, .f32⟩
  | .hbm, ⟨54, _⟩ => ⟨S65536x64, .f32⟩
  | .hbm, ⟨55, _⟩ => ⟨S65536x64, .f32⟩
  | .hbm, ⟨56, _⟩ => ⟨S65536x1, .i32⟩
  | .hbm, ⟨57, _⟩ => ⟨S_, .i32⟩
  | .hbm, ⟨58, _⟩ => ⟨S65536x1, .i32⟩
  | .hbm, ⟨59, _⟩ => ⟨S65536x1, .i1⟩
  | .hbm, ⟨60, _⟩ => ⟨S_, .i32⟩
  | .hbm, ⟨61, _⟩ => ⟨S65536x1, .i32⟩
  | .hbm, ⟨62, _⟩ => ⟨S65536x1, .i32⟩
  | .hbm, ⟨63, _⟩ => ⟨S65536x1, .i32⟩
  | .hbm, ⟨64, _⟩ => ⟨S65536x1x1, .i32⟩
  | .hbm, ⟨65, _⟩ => ⟨S1, .i32⟩
  | .hbm, ⟨66, _⟩ => ⟨S_, .i32⟩
  | .hbm, ⟨67, _⟩ => ⟨S65536x1x1, .i32⟩
  | .hbm, ⟨68, _⟩ => ⟨S65536x1x1, .i1⟩
  | .hbm, ⟨69, _⟩ => ⟨S1x1x1, .i32⟩
  | .hbm, ⟨70, _⟩ => ⟨S65536x1x1, .i32⟩
  | .hbm, ⟨71, _⟩ => ⟨S65536x1x1, .i1⟩
  | .hbm, ⟨72, _⟩ => ⟨S65536x1x1, .i1⟩
  | .hbm, ⟨73, _⟩ => ⟨S_, .i1⟩
  | .hbm, ⟨74, _⟩ => ⟨S65536x1, .i1⟩
  | .hbm, ⟨75, _⟩ => ⟨S65536x1, .f32⟩
  | .hbm, ⟨76, _⟩ => ⟨S_, .f32⟩
  | .hbm, ⟨77, _⟩ => ⟨S65536x1, .f32⟩
  | .hbm, ⟨78, _⟩ => ⟨S65536x1, .f32⟩
  | .hbm, ⟨79, _⟩ => ⟨S65536, .f32⟩
  | .hbm, ⟨80, _⟩ => ⟨S65536x64, .f32⟩
  | .hbm, ⟨81, _⟩ => ⟨S_, .f32⟩
  | .hbm, ⟨82, _⟩ => ⟨S_, .f32⟩
  | .hbm, ⟨83, _⟩ => ⟨S65536x64, .f32⟩
  | .hbm, ⟨84, _⟩ => ⟨S65536x64, .f32⟩
  | .hbm, ⟨85, _⟩ => ⟨S65536x64, .f32⟩
  | .hbm, ⟨86, _⟩ => ⟨S_, .f32⟩
  | .hbm, ⟨87, _⟩ => ⟨S65536, .f32⟩
  | .hbm, ⟨88, _⟩ => ⟨S65536, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v8 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v9 : Ref sig .tc := ⟨.hbm, 55, rfl⟩
abbrev main_v10 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_cst_0 : Ref sig .tc := ⟨.hbm, 81, rfl⟩
abbrev main_call4_v0 : Ref sig .tc := ⟨.hbm, 82, rfl⟩
abbrev main_call4_v1 : Ref sig .tc := ⟨.hbm, 83, rfl⟩
abbrev main_v14 : Ref sig .tc := ⟨.hbm, 84, rfl⟩
abbrev main_v15 : Ref sig .tc := ⟨.hbm, 85, rfl⟩
abbrev main_cst_1 : Ref sig .tc := ⟨.hbm, 86, rfl⟩
abbrev main_v16 : Ref sig .tc := ⟨.hbm, 87, rfl⟩
abbrev main_v17 : Ref sig .tc := ⟨.hbm, 88, rfl⟩

abbrev nD : Nat := 1
abbrev τ : Topo := Topo.v7x

variable {F : FTy → Type} [FloatOps F]
-- ==== Proof.Pre.lean ====
/-
  The two preconditions read: what a memory of which the printed predicate is all ones satisfies, index by index.
-/
module

public import proofs.«01_k».proof.Pre_actors_named
public import proofs.«01_k».proof.Pre_inputs_ranged
public import Idealize.ShloMosaic.PureOps.Ideal
public import Idealize.ShloMosaic.Lib.ReduceAll
public import Idealize.ShloMosaic.Lib.WordArith
public import Idealize.ShloMosaic.Lib.Pointwise
public import Idealize.ShloMosaic.Lib.Pipeline.Value

@[expose] public section

noncomputable section

namespace Cert.Proof.Pre

open Idealize.ShloMosaic

instance factsNamed : Cert.Pre_actors_named.Facts where
  bcast_S_S65536 := by decide

instance factsRanged : Cert.Pre_inputs_ranged.Facts where
  bcast_S_S65536 := by decide
  reducesTo_S65536_S_d0 := by decide
  h_S_ := by decide
  bcast_S_S131072x256 := by decide
  reducesTo_S131072x256_S_d0_1 := by decide
  bcast_S_S64x256 := by decide
  reducesTo_S64x256_S_d0_1 := by decide
  bcast_S_S64 := by decide
  reducesTo_S64_S_d0 := by decide

theorem andi_one {p q : BitVec 1} (h : IntOp.andi p q = 1#1) : p = 1#1 ∧ q = 1#1 := by
  revert h; revert p q; decide

/-- A word that is at least zero and below `131072`, signed, is below it as a number. -/
theorem lt_rows {v : BitVec 32} (h : IntOp.andi (IntOp.cmpi .sge v 0#32) (IntOp.cmpi .slt v 131072#32) = 1#1) : v.toNat < 131072 := by
  have ofBool_eq_one (p : Bool) : (BitVec.ofBool p = 1#1) ↔ p = true := by cases p <;> decide
  obtain ⟨h1, h2⟩ := andi_one h
  simp only [IntOp.cmpi, ofBool_eq_one, BitVec.sle_eq_decide, BitVec.slt_eq_decide, decide_eq_true_eq, BitVec.toInt_eq_toNat_cond,
    BitVec.toNat_ofNat, Nat.reducePow, Nat.reduceMod] at h1 h2
  omega

/-- The same below `64`. -/
theorem lt_choices {v : BitVec 32} (h : IntOp.andi (IntOp.cmpi .sge v 0#32) (IntOp.cmpi .slt v 64#32) = 1#1) : v.toNat < 64 := by
  have ofBool_eq_one (p : Bool) : (BitVec.ofBool p = 1#1) ↔ p = true := by cases p <;> decide
  obtain ⟨h1, h2⟩ := andi_one h
  simp only [IntOp.cmpi, ofBool_eq_one, BitVec.sle_eq_decide, BitVec.slt_eq_decide, decide_eq_true_eq, BitVec.toInt_eq_toNat_cond,
    BitVec.toNat_ofNat, Nat.reducePow, Nat.reduceMod] at h1 h2
  omega

/-- The first precondition: every actor is a row of the input. -/
theorem named {F : FTy → Type} [FloatOps F] {x : FVec F ⟨2, ![131072, 256]⟩ .f32} {a : IVec ⟨1, ![65536]⟩ 32} {k : IVec ⟨2, ![65536, 64]⟩ 32}
    {p : IVec ⟨1, ![65536]⟩ 32} {w : FVec F ⟨2, ![64, 256]⟩ .f32} {b : FVec F ⟨1, ![64]⟩ .f32}
    (h : Cert.Pre_actors_named.fn (F := F) x a k p w b = fun _ => 1#1) (i : (⟨1, ![65536]⟩ : Shape).Idx) : (a i : BitVec 32).toNat < 131072 := by
  have e := congrFun h i
  simp only [Cert.Pre_actors_named.fn, andi, cmpi, broadcastInDim, constantI] at e
  exact lt_rows e

/-- The printed pattern of infinity, and of minus infinity. -/
theorem ofBits_top : Ideal.ofBits .f32 0x7F800000#32 = ⊤ := by
  simp only [Ideal.ofBits, Ideal.ieee]
  rw [if_pos (by decide), if_pos (by decide), if_neg (by decide)]
theorem ofBits_bot : Ideal.ofBits .f32 0xFF800000#32 = ⊥ := by
  simp only [Ideal.ofBits, Ideal.ieee]
  rw [if_pos (by decide), if_pos (by decide), if_pos (by decide)]

/-- A number whose absolute value is below infinity is real. -/
theorem real_of_lt {v : EReal} (h : FloatOps.cmpf (F := Ideal) (φ := .f32) .olt (FloatOps.hostAbsf (F := Ideal) (φ := .f32) v) (FloatOps.ofBits (F := Ideal) .f32 0x7F800000#32) = 1#1) : ∃ r : ℝ, v = r := by
  have h' : Ideal.cmp .olt (max v (-v)) (Ideal.ofBits .f32 0x7F800000#32) = 1#1 := h
  rw [ofBits_top] at h'
  induction v using EReal.rec with
  | bot => exact absurd h' (by simp [Ideal.cmp])
  | top => exact absurd h' (by simp [Ideal.cmp])
  | coe r => exact ⟨r, rfl⟩

/-- The second precondition: every actor is a row, every previous action a choice, and the float inputs are real. -/
theorem ranged {x : FVec Ideal ⟨2, ![131072, 256]⟩ .f32} {a : IVec ⟨1, ![65536]⟩ 32} {k : IVec ⟨2, ![65536, 64]⟩ 32}
    {p : IVec ⟨1, ![65536]⟩ 32} {w : FVec Ideal ⟨2, ![64, 256]⟩ .f32} {b : FVec Ideal ⟨1, ![64]⟩ .f32}
    (h : Cert.Pre_inputs_ranged.fn (F := Ideal) x a k p w b = fun _ => 1#1) :
    (∀ i, (a i : BitVec 32).toNat < 131072) ∧ (∀ i, (p i : BitVec 32).toNat < 64) ∧ (∀ i, ∃ r : ℝ, x i = (r : EReal))
      ∧ (∀ i, ∃ r : ℝ, w i = (r : EReal)) ∧ (∀ i, ∃ r : ℝ, b i = (r : EReal)) := by
  have e := congrFun h ix0
  simp only [Cert.Pre_inputs_ranged.fn, Cert.Pre_inputs_ranged.fn_part1] at e
  change IntOp.andi (IntOp.andi (IntOp.andi (IntOp.andi _ _) _) _) _ = 1#1 at e
  obtain ⟨e, eb⟩ := andi_one e
  obtain ⟨e, ew⟩ := andi_one e
  obtain ⟨e, ex⟩ := andi_one e
  obtain ⟨ea, ep⟩ := andi_one e
  haveI : Subsingleton Cert.Pre_inputs_ranged.S_.Idx := ⟨fun a b => funext fun i => i.elim0⟩
  refine ⟨fun i => lt_rows (Host.reduce_andi_all _ _ _ _ _ ea i), fun i => lt_choices (Host.reduce_andi_all _ _ _ _ _ ep i),
    fun i => real_of_lt (Host.reduce_andi_all _ _ _ _ _ ex i), fun i => real_of_lt (Host.reduce_andi_all _ _ _ _ _ ew i),
    fun i => real_of_lt (Host.reduce_andi_all _ _ _ _ _ eb i)⟩

end Cert.Proof.Pre

end
-- ==== Proof.Arith.lean ====
/-
  The index arithmetic of the kernel on single words: the rounding-down quotient and the remainder with the divisor's
  sign, as selections over the truncating ones, are the quotient and the remainder of natural numbers where the words
  hold natural numbers below 2 ^ 31. From them the row of the table that holds an actor's logits and the half of that row.
-/
module

public import Idealize.ShloMosaic.Lib.Routing.Words
public import Idealize.ShloMosaic.Lib.ValueLayout

@[expose] public section

noncomputable section

namespace Cert.Proof.Arith

open Idealize.ShloMosaic

/-- The sign of a word. -/
def sgn (x : BitVec 32) : BitVec 32 := if x = 0 then 0 else if BitVec.msb x = true then -1 else 1

/-- The quotient rounded down: the truncated one, less one where the signs differ and the division leaves a remainder. -/
def floorWord (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- A divisor, with one for zero. -/
def guardWord (y : BitVec 32) : BitVec 32 := Scalar.select (IntOp.cmpi .eq y 0#32) 1#32 y

/-- The remainder with the divisor's sign: the truncated one, the divisor added where it is not zero and the signs differ. -/
def remWord (x y : BitVec 32) : BitVec 32 :=
  Scalar.select (IntOp.andi
      (IntOp.cmpi .ne (IntOp.cmpi .slt (IntOp.remsi .host x (guardWord y)) 0#32) (IntOp.cmpi .slt (guardWord y) 0#32))
      (IntOp.cmpi .ne (IntOp.remsi .host x (guardWord y)) 0#32))
    (IntOp.addi (IntOp.remsi .host x (guardWord y)) (guardWord y)) (IntOp.remsi .host x (guardWord y))

theorem sgn_pos {a : ℕ} (h0 : 0 < a) (ha : a < 2 ^ 31) : sgn (BitVec.ofNat 32 a) = 1#32 := by
  unfold sgn
  rw [if_neg, if_neg]
  · rfl
  · rw [BitVec.msb_eq_decide]; simp; omega
  · intro h
    have := congrArg BitVec.toNat h
    simp at this; omega

theorem cmpi_ne_self {w : ℕ} (x : BitVec w) : IntOp.cmpi .ne x x = 0#1 := by
  simp [IntOp.cmpi]

theorem andi_zero_left (x : BitVec 1) : IntOp.andi 0#1 x = 0#1 := by revert x; decide
theorem andi_zero_right (x : BitVec 1) : IntOp.andi x 0#1 = 0#1 := by revert x; decide

/-- On words of natural numbers below 2 ^ 31 it is their quotient; -/
theorem floorWord_nat {a b : ℕ} (ha : a < 2 ^ 31) (h0 : 0 < b) (hb : b < 2 ^ 31) :
    floorWord (BitVec.ofNat 32 a) (BitVec.ofNat 32 b) = BitVec.ofNat 32 (a / b) := by
  unfold floorWord
  rw [Routing.remsi_word _ ha h0 hb, Routing.divsi_word _ ha h0 hb]
  rcases Nat.eq_zero_or_pos a with rfl | hp
  · rw [Nat.zero_mod, cmpi_ne_self, andi_zero_right]; rfl
  · rw [sgn_pos hp ha, sgn_pos h0 hb, cmpi_ne_self, andi_zero_left]; rfl

theorem slt_zero_nat {a : ℕ} (ha : a < 2 ^ 31) : IntOp.cmpi .slt (BitVec.ofNat 32 a) 0#32 = 0#1 := by
  simp only [IntOp.cmpi]
  rw [show BitVec.slt (BitVec.ofNat 32 a) 0#32 = false from by
    rw [BitVec.slt_eq_decide, BitVec.toInt_eq_toNat_cond, BitVec.toNat_ofNat]
    simp only [decide_eq_false_iff_not]
    simp; omega]
  rfl

theorem guardWord_nat {b : ℕ} (h0 : 0 < b) (hb : b < 2 ^ 31) : guardWord (BitVec.ofNat 32 b) = BitVec.ofNat 32 b := by
  unfold guardWord
  rw [show IntOp.cmpi .eq (BitVec.ofNat 32 b) 0#32 = 0#1 from by
    simp only [IntOp.cmpi]
    rw [show (BitVec.ofNat 32 b == 0#32) = false from by
      rw [beq_eq_false_iff_ne]; intro h; have := congrArg BitVec.toNat h; simp at this; omega]
    rfl]
  rfl

/-- and so is the remainder. -/
theorem remWord_nat {a b : ℕ} (ha : a < 2 ^ 31) (h0 : 0 < b) (hb : b < 2 ^ 31) :
    remWord (BitVec.ofNat 32 a) (BitVec.ofNat 32 b) = BitVec.ofNat 32 (a % b) := by
  unfold remWord
  have hr : a % b < 2 ^ 31 := lt_of_lt_of_le (Nat.mod_lt _ h0) hb.le
  rw [guardWord_nat h0 hb, Routing.remsi_word _ ha h0 hb, slt_zero_nat hr, slt_zero_nat hb, cmpi_ne_self, andi_zero_left]
  rfl

/-! ## Where an actor's logits are -/

/-- The row of the table that holds actor `x`'s logits, as the kernel computes it; -/
def rowWord (x : BitVec 32) : BitVec 32 := IntOp.addi (IntOp.muli (floorWord x 8192#32) 4096#32) (remWord x 4096#32)
/-- the half of that row it is in. -/
def halfWord (x : BitVec 32) : BitVec 32 := floorWord (remWord x 8192#32) 4096#32

theorem rowWord_nat {a : ℕ} (ha : a < 131072) : rowWord (BitVec.ofNat 32 a) = BitVec.ofNat 32 (a / 8192 * 4096 + a % 4096) := by
  unfold rowWord
  rw [show (8192#32 : BitVec 32) = BitVec.ofNat 32 8192 from rfl, show (4096#32 : BitVec 32) = BitVec.ofNat 32 4096 from rfl,
    floorWord_nat (by omega) (by decide) (by decide), remWord_nat (by omega) (by decide) (by decide)]
  unfold IntOp.addi IntOp.muli
  rw [BitVec.ofNat_add, BitVec.ofNat_mul]

/-- The row, for an actor below 131072, -/
theorem rowWord_toNat {x : BitVec 32} (hx : x.toNat < 131072) : (rowWord x).toNat = x.toNat / 8192 * 4096 + x.toNat % 4096 := by
  have hxe : x = BitVec.ofNat 32 x.toNat := by simp
  generalize x.toNat = n at hx hxe ⊢
  subst hxe
  rw [rowWord_nat hx]
  simp only [BitVec.toNat_ofNat]
  omega

/-- is below 65536; -/
theorem rowWord_lt {x : BitVec 32} (hx : x.toNat < 131072) : (rowWord x).toNat < 65536 := by
  rw [rowWord_toNat hx]; omega

/-- and the half is the second exactly for an actor in the second half of its block of 8192. -/
theorem halfWord_toNat {x : BitVec 32} (hx : x.toNat < 131072) : (halfWord x).toNat = x.toNat % 8192 / 4096 := by
  have hxe : x = BitVec.ofNat 32 x.toNat := by simp
  generalize x.toNat = n at hx hxe ⊢
  subst hxe
  unfold halfWord
  rw [show (8192#32 : BitVec 32) = BitVec.ofNat 32 8192 from rfl, show (4096#32 : BitVec 32) = BitVec.ofNat 32 4096 from rfl,
    remWord_nat (by omega) (by decide) (by decide), floorWord_nat (by omega) (by decide) (by decide)]
  simp only [BitVec.toNat_ofNat]
  omega

/-- Half the table's row and its half give the actor back. -/
theorem actor_of_row (a : ℕ) : 8192 * ((a / 8192 * 4096 + a % 4096) / 4096) + (a % 8192 / 4096 * 4096 + (a / 8192 * 4096 + a % 4096) % 4096) = a := by
  omega

end Cert.Proof.Arith

end
-- ==== Proof.Whole.lean ====
/-
  Loads and stores of a whole staging buffer: through the rectangle of a memref's own sizes, a load reads the memref's
  contents and a store replaces them. Both over `owns`, the form in which the pipeline hands the body its buffers.
-/
module

public import Idealize.ShloMosaic.Lib.Memref
public import Idealize.ShloMosaic.Lib.VecWindow
public import Idealize.ShloMosaic.Lib.Tactic
public import Idealize.ShloMosaic.Rules.Step

@[expose] public section

noncomputable section

namespace Cert.Proof.Whole

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {α : Type}

local notation "𝕄" => MT nD τ sig Ix Val Name U Lvl

variable {defs : Defs nD τ sig Val Λ} (𝒱 : Variants) (c : Thread nD τ) (bd : Option 𝒱.V) (E : Set Name)

/-- A load of all of a memref held at `X` continues at `X`. -/
theorem wp_load_owns {Q : α → sProp 𝕄} {cs : CoreSpace} {s : Shape} {e : EltTy} {m : Memref sig c.2.kind cs s e} {off : Fin s.rank → ℕ}
    {inb : ∀ a, off a + s.size a ≤ s.size a} {hl : m.view.LoadsAt (Rect.unit off s.size inb).toLoadRect}
    {k : (s.Idx → Val e) → Prog (TpuEff nD τ sig Val Λ c.2) α} {X : s.Idx → Val e} :
    (owns c m fullShare X : sProp 𝕄) ⊢ iprop(((owns c m fullShare X : sProp 𝕄) -∗ wp frame (wpE defs 𝒱 c bd) E (k X) Q)
        -∗ wp frame (wpE defs 𝒱 c bd) E (.op (.load m (Rect.unit off s.size inb).toLoadRect hl) k) Q) := by
  unfold owns
  iintro ⟨%f, %hf, H⟩ Hk
  have hr : m.view.readAt Val (Rect.unit off s.size inb).toLoadRect f = X := by
    rw [← hf]; funext z
    show m.view.read Val f ((Rect.unit off s.size inb).emb z) = _
    rw [Rect.emb_unit_full]
  have h := wp_load (defs := defs) 𝒱 c bd (Γ := .empty) E (Q := Q) (m := m) (r := (Rect.unit off s.size inb).toLoadRect) (hl := hl)
    (k := k) (q := fullShare) (f := f) (S := m.view.set) (Finset.map_subset_map.mpr (Finset.subset_univ _))
  rw [hr] at h
  ihave H' := h $$ H
  iapply H'
  iintro H
  iapply Hk
  iexists f
  isplitr
  · ipureintro; exact hf
  iexact H

/-- A store of `w` over all of a memref leaves it held at `w`. -/
theorem wp_store_owns {Q : α → sProp 𝕄} {cs : CoreSpace} {s : Shape} {e : EltTy} {m : Memref sig c.2.kind cs s e} {off : Fin s.rank → ℕ}
    {inb : ∀ a, off a + s.size a ≤ s.size a} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} {w : s.Idx → Val e} :
    (owns c m fullShare X : sProp 𝕄) ⊢ iprop(((owns c m fullShare w : sProp 𝕄) -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  have hr : m.view.read Val ((m.access (Rect.unit off s.size inb)).write Val f w Finset.univ) = w := by
    funext z
    have := View.read_slice_write_emb (v := m.view) (Rect.unit off s.size inb) f w (Finset.mem_univ z)
    rwa [Rect.emb_unit_full] at this
  have h := wp_store (defs := defs) 𝒱 c bd (Γ := .empty) E (Q := Q) (m := m) (r := Rect.unit off s.size inb) (w := w) (Mk := Finset.univ)
    (hx := hx) (hm := hm) (k := k) (f := f) (S := m.view.set) (View.set_slice_subset _ _)
  ihave H' := h $$ H
  iapply H'
  iintro H
  iapply Hk
  iexists _
  isplitr
  · ipureintro; exact hr
  iexact H

end Cert.Proof.Whole

end
-- ==== Proof.KI.Words.lean ====
/-
  The words a tile of the gather computes: which slot, which semaphore and which block of 256 rows each step of its
  eight-trip loop names, in closed form. Tile `(c, s)` is number `s + 16 c` of 32 and owns the blocks
  `8 (s + 16 c) … 8 (s + 16 c) + 7`; trip `k` works on the `k`-th of them, in slot `k % 2`.
-/
module

public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

/-- The grid coordinates of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (L : grid1.Coords) : coordsV (L 0) (L 1) = L := by
  funext a
  match a with
  | 0 => rfl
  | 1 => rfl

/-- The number of a tile among the 32. -/
def tileNo (L : grid1.Coords) : ℕ := (L 1).val + 16 * (L 0).val

theorem tileNo_lt (L : grid1.Coords) : tileNo L < 32 := by
  have h0 : (L 0).val < 2 := (L 0).isLt
  have h1 : (L 1).val < 16 := (L 1).isLt
  unfold tileNo; omega

/-- Block `k` of a tile, among the 256; -/
def blk (L : grid1.Coords) (k : ℕ) : Fin 256 := ⟨(8 * tileNo L + k) % 256, Nat.mod_lt _ (by decide)⟩
/-- its number. -/
abbrev blkNo (L : grid1.Coords) (k : ℕ) : ℕ := (blk L k).val

theorem blkNo_eq (L : grid1.Coords) {k : ℕ} (hk : k < 8) : blkNo L k = 8 * tileNo L + k := by
  have := tileNo_lt L
  unfold blkNo blk; simp only; omega

/-! ## The words carried from trip to trip -/

/-- How many blocks of row numbers have been asked for before trip `k`. -/
def w6 (k : ℕ) : BitVec 32 := BitVec.ofNat 32 (min (k + 1) 8)
/-- How many have been used; how many output slots have been filled. -/
def w7 (k : ℕ) : BitVec 32 := BitVec.ofNat 32 k
/-- How many copies out have been waited for. -/
def w9 (k : ℕ) : BitVec 32 := BitVec.ofNat 32 (k - 1)
/-- The block within the tile. -/
def w10 (k : ℕ) : BitVec 32 := BitVec.ofNat 32 (k % 8)

/-- The five words carried, before trip `k`. -/
def wAll (k : ℕ) : BitVec 32 × BitVec 32 × BitVec 32 × BitVec 32 × BitVec 32 := (w6 k, w7 k, w7 k, w9 k, w10 k)

theorem trips_eq : k1_t1_loop.trips = 8 := by decide

/-- A statement of every tile and every trip is checked tile by tile and trip by trip. -/
theorem forallTile {P : grid1.Coords → Prop} (h : ∀ (c : Fin (grid1.bound 0)) (s : Fin (grid1.bound 1)), P (coordsV c s)) (L : grid1.Coords) : P L :=
  coordsV_eta L ▸ h (L 0) (L 1)

theorem chk3_ok : ∀ t : Fin k1_t1_loop.trips, k1_chk3 (w7 t.val) := by decide +kernel
theorem chk2_ok : ∀ t : Fin k1_t1_loop.trips, k1_chk2 (w7 t.val) := by decide +kernel
theorem chk1_ok (L : grid1.Coords) : ∀ t : Fin k1_t1_loop.trips, k1_chk1 L t (w6 t.val) (w7 t.val) (w7 t.val) (w9 t.val) (w10 t.val) :=
  forallTile (P := fun L => ∀ t : Fin k1_t1_loop.trips, k1_chk1 L t (w6 t.val) (w7 t.val) (w7 t.val) (w9 t.val) (w10 t.val)) (by decide +kernel) L
theorem chk5_ok (L : grid1.Coords) : k1_chk5 L (w10 8) := forallTile (P := fun L => k1_chk5 L (w10 8)) (by decide +kernel) L
theorem chk4_ok : k1_chk4 (w9 8) := by decide +kernel

theorem cond1_iff (L : grid1.Coords) : ∀ t : Fin k1_t1_loop.trips, k1_cond1 L t (w10 t.val) = 1#1 ↔ t.val < 7 :=
  forallTile (P := fun L => ∀ t : Fin k1_t1_loop.trips, k1_cond1 L t (w10 t.val) = 1#1 ↔ t.val < 7) (by decide +kernel) L
theorem cond2_ok (L : grid1.Coords) : ∀ t : Fin k1_t1_loop.trips, k1_cond2 L t (w10 t.val) = 1#1 :=
  forallTile (P := fun L => ∀ t : Fin k1_t1_loop.trips, k1_cond2 L t (w10 t.val) = 1#1) (by decide +kernel) L
theorem cond5_ok (L : grid1.Coords) : ∀ t : Fin k1_t1_loop.trips, k1_cond5 L t (w10 t.val) = 1#1 :=
  forallTile (P := fun L => ∀ t : Fin k1_t1_loop.trips, k1_cond5 L t (w10 t.val) = 1#1) (by decide +kernel) L
theorem cond7_iff (L : grid1.Coords) : ∀ t : Fin k1_t1_loop.trips, k1_cond7 L t (w10 t.val) = 1#1 ↔ 0 < t.val :=
  forallTile (P := fun L => ∀ t : Fin k1_t1_loop.trips, k1_cond7 L t (w10 t.val) = 1#1 ↔ 0 < t.val) (by decide +kernel) L

/-! ## The offsets -/

theorem off1_eq : k1_off1 = ![0 % 2, 0, 0] := by decide +kernel
theorem off2_eq (L : grid1.Coords) : k1_off2 L = ![0, 256 * blkNo L 0] :=
  forallTile (P := fun L => k1_off2 L = ![0, 256 * blkNo L 0]) (by decide +kernel) L
theorem off3_eq : k1_off3 = ![0 % 2] := by decide +kernel
theorem off4_eq : ∀ t : Fin k1_t1_loop.trips, t.val < 7 → k1_off4 (w6 t.val) = ![(t.val + 1) % 2, 0, 0] := by decide +kernel
theorem off5_eq (L : grid1.Coords) : ∀ t : Fin k1_t1_loop.trips, t.val < 7 → k1_off5 L (w10 t.val) = ![0, 256 * blkNo L (t.val + 1)] :=
  forallTile (P := fun L => ∀ t : Fin k1_t1_loop.trips, t.val < 7 → k1_off5 L (w10 t.val) = ![0, 256 * blkNo L (t.val + 1)]) (by decide +kernel) L
theorem off6_eq : ∀ t : Fin k1_t1_loop.trips, t.val < 7 → k1_off6 (w6 t.val) = ![(t.val + 1) % 2] := by decide +kernel
theorem off7_eq : ∀ t : Fin k1_t1_loop.trips, k1_off7 (w7 t.val) = ![t.val % 2, 0, 0] := by decide +kernel
theorem off8_eq (L : grid1.Coords) : ∀ t : Fin k1_t1_loop.trips, k1_off8 L (w10 t.val) = ![0, 256 * blkNo L t.val] :=
  forallTile (P := fun L => ∀ t : Fin k1_t1_loop.trips, k1_off8 L (w10 t.val) = ![0, 256 * blkNo L t.val]) (by decide +kernel) L
theorem off9_eq : ∀ t : Fin k1_t1_loop.trips, k1_off9 (w7 t.val) = ![t.val % 2] := by decide +kernel
theorem off10_eq : ∀ t : Fin k1_t1_loop.trips, k1_off10 (w7 t.val) = ![t.val % 2, 0, 0] := by decide +kernel
theorem off11_eq : ∀ t : Fin k1_t1_loop.trips, k1_off11 (w7 t.val) = ![t.val % 2, 0, 0] := by decide +kernel
theorem off12_eq : ∀ t : Fin k1_t1_loop.trips, k1_off12 (w7 t.val) = ![t.val % 2, 0, 0] := by decide +kernel
theorem off13_eq (L : grid1.Coords) : ∀ t : Fin k1_t1_loop.trips, k1_off13 L (w10 t.val) = ![256 * blkNo L t.val, 0] :=
  forallTile (P := fun L => ∀ t : Fin k1_t1_loop.trips, k1_off13 L (w10 t.val) = ![256 * blkNo L t.val, 0]) (by decide +kernel) L
theorem off14_eq : ∀ t : Fin k1_t1_loop.trips, k1_off14 (w7 t.val) = ![t.val % 2] := by decide +kernel
theorem off15_eq : ∀ t : Fin k1_t1_loop.trips, 0 < t.val → k1_off15 (w9 t.val) = ![(t.val - 1) % 2, 0, 0] := by decide +kernel
theorem off16_eq (L : grid1.Coords) : ∀ t : Fin k1_t1_loop.trips, 0 < t.val → k1_off16 L (w10 t.val) = ![256 * blkNo L (t.val - 1), 0] :=
  forallTile (P := fun L => ∀ t : Fin k1_t1_loop.trips, 0 < t.val → k1_off16 L (w10 t.val) = ![256 * blkNo L (t.val - 1), 0]) (by decide +kernel) L
theorem off17_eq : ∀ t : Fin k1_t1_loop.trips, 0 < t.val → k1_off17 (w9 t.val) = ![(t.val - 1) % 2] := by decide +kernel
theorem off19_eq (L : grid1.Coords) : k1_off19 L (w10 8) = ![256 * blkNo L 7, 0] :=
  forallTile (P := fun L => k1_off19 L (w10 8) = ![256 * blkNo L 7, 0]) (by decide +kernel) L
theorem off20_eq : k1_off20 (w9 8) = ![7 % 2] := by decide +kernel
theorem off21_eq : k1_off21 (w9 8) = ![7 % 2, 0, 0] := by decide +kernel

/-! ## The words after a trip -/

/-- The number of the tile's first block, as the kernel computes it. -/
def wBase (L : grid1.Coords) : BitVec 32 := BitVec.ofNat 32 (8 * tileNo L)

theorem base_eq (L : grid1.Coords) :
    Scalar.muli (Scalar.addi (Scalar.addi 0#32 (Scalar.muli (BitVec.ofNat 32 (L 1).val) 1#32)) (Scalar.muli (BitVec.ofNat 32 (L 0).val) 16#32)) 8#32 = wBase L :=
  forallTile (P := fun L => Scalar.muli (Scalar.addi (Scalar.addi 0#32 (Scalar.muli (BitVec.ofNat 32 (L 1).val) 1#32)) (Scalar.muli (BitVec.ofNat 32 (L 0).val) 16#32)) 8#32 = wBase L)
    (by decide +kernel) L

end Cert.Proof.KernelIdeal

end
-- ==== Proof.KI.Base.lean ====
/-
  The launch of the kernel's program as the SparseCore launch theorem sees it: its labels, its configuration, the ghost
  state of the certificate (the handshakes' rounds, the two TensorCore pipelines' rounds, the local transfers'
  counters), and the arrays the three calls exchange.
-/
module

public import proofs.«01_k».proof.Defs
public import proofs.«01_k».proof.Proof.KI.Words
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program: its kernels' and its pipelines'. -/
abbrev ΛP : Labels := Pipeline.Sig Λ₀ (Fin 2) fun p => (pcfgs (F := F) p).Adm
/-- The one SparseCore call's configuration. -/
abbrev K : SparseCore.Cfg τ sig (ΛP (F := F)) 1 := sc (F := F)
theorem nCore_zero : (K (F := F)).nCore 0 = 2 := rfl
theorem nSub_zero : (K (F := F)).nSub 0 = 16 := rfl
/-- The kernels' and the pipelines' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The certificate's ghost state -/

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds in the machine's algebra. -/
def EP : Emb UP (MT nD τ sig (HIx 1) (Elt F) ℕ UU ℕ) := (Emb.inl : Emb UP (UP × Counters)).trans embR

instance EP_lands : (EP : Emb UP (MT nD τ sig (HIx 1) (Elt F) ℕ UU ℕ)).LandsIn (upEmb : UEmb _ 𝕄) := by
  unfold EP; infer_instance

/-! ## The arrays the gather reads and writes -/

/-- The projected table, the row numbers, and the gathered rows. -/
abbrev tLoc (d : Dev nD) : Loc nD τ sig := (SparseCore.T d).loc main_v3
abbrev iLoc (d : Dev nD) : Loc nD τ sig := (SparseCore.T d).loc main_v11
abbrev oLoc (d : Dev nD) : Loc nD τ sig := (SparseCore.T d).loc main_v12

end Cert.Proof.KernelIdeal

end
-- ==== Proof.KI.Ops.lean ====
/-
  The host operations of the kernel's `main` as four lines of operations, and `main` as those lines with the three
  kernel calls between them: the line before the projection (the weights' transpose and cast, the offset's reshape), the
  line of index arithmetic between the projection and the gather, the mask's transpose before the head, and the transpose
  of the normalized logits after it. Then what the lines leave in the buffers the kernels read.
-/
module

public import proofs.«01_k».proof.Proof.KI.Base
public import proofs.«01_k».proof.Proof.Arith
public import Idealize.ShloMosaic.Lib.StableHlo.ReadAt
public import Idealize.ShloMosaic.Lib.ValueLayout

@[expose] public section

noncomputable section

namespace Cert.Proof.KernelIdeal

open Cert.KernelIdeal Cert.KernelIdeal.Gen Cert.Proof.Arith
open Idealize.ShloMosaic hiding ix0 ix1 ix2 ix3
open Idealize.ShloMosaic.ValueIdx
open Idealize.SL.Sem

variable {F : FTy → Type} [FloatOps F]

/-- The type of `main` on a device. -/
abbrev HostProg (F : FTy → Type) [FloatOps F] : Type 1 :=
  Prog (TpuEff nD τ sig (Elt F) (SparseCore.Sig (Pipeline.Sig Λ₀ (Fin 2) fun p => (pcfgs (F := F) p).Adm) 1) .tc) PUnit

/-! ## The called functions' operations -/

/-- The rounding-down division's operations (of the actors' numbers by 8192). -/
def floorOps (arg0 : StableHlo.TRef sig ⟨S65536, .i32⟩) (arg1 : StableHlo.TRef sig ⟨S_, .i32⟩) (φ : fn_floor_divide.Bufs) : List (HloOp τ sig (Elt F)) :=
  [StableHlo.TRef.unary arg1 φ.v0 id, StableHlo.TRef.unary φ.v0 φ.v1 (broadcastInDim S65536 ![] bcast_S_S65536),
   StableHlo.TRef.binary arg0 φ.v1 φ.v2 Host.divsi, StableHlo.TRef.unary arg0 φ.v3 signi, StableHlo.TRef.unary φ.v0 φ.v4 signi,
   StableHlo.TRef.unary φ.v4 φ.v5 (broadcastInDim S65536 ![] bcast_S_S65536), StableHlo.TRef.binary φ.v3 φ.v5 φ.v6 (cmpi .ne),
   StableHlo.TRef.unary φ.v0 φ.v7 (broadcastInDim S65536 ![] bcast_S_S65536), StableHlo.TRef.binary arg0 φ.v7 φ.v8 Host.remsi,
   StableHlo.TRef.nullary φ.c (constantI S_ 32 0#32), StableHlo.TRef.unary φ.c φ.v9 (broadcastInDim S65536 ![] bcast_S_S65536),
   StableHlo.TRef.binary φ.v8 φ.v9 φ.v10 (cmpi .ne), StableHlo.TRef.binary φ.v6 φ.v10 φ.v11 andi,
   StableHlo.TRef.nullary φ.c_0 (constantI S_ 32 1#32), StableHlo.TRef.unary φ.c_0 φ.v12 (broadcastInDim S65536 ![] bcast_S_S65536),
   StableHlo.TRef.binary φ.v2 φ.v12 φ.v13 subi, StableHlo.TRef.ternary φ.v11 φ.v13 φ.v2 φ.call0.v0 select]

/-- The same division's operations where it divides the remainders by 4096. -/
def floorOps1 (arg0 : StableHlo.TRef sig ⟨S65536, .i32⟩) (arg1 : StableHlo.TRef sig ⟨S_, .i32⟩) (φ : fn_floor_divide_1.Bufs) : List (HloOp τ sig (Elt F)) :=
  [StableHlo.TRef.unary arg1 φ.v0 id, StableHlo.TRef.unary φ.v0 φ.v1 (broadcastInDim S65536 ![] bcast_S_S65536),
   StableHlo.TRef.binary arg0 φ.v1 φ.v2 Host.divsi, StableHlo.TRef.unary arg0 φ.v3 signi, StableHlo.TRef.unary φ.v0 φ.v4 signi,
   StableHlo.TRef.unary φ.v4 φ.v5 (broadcastInDim S65536 ![] bcast_S_S65536), StableHlo.TRef.binary φ.v3 φ.v5 φ.v6 (cmpi .ne),
   StableHlo.TRef.unary φ.v0 φ.v7 (broadcastInDim S65536 ![] bcast_S_S65536), StableHlo.TRef.binary arg0 φ.v7 φ.v8 Host.remsi,
   StableHlo.TRef.nullary φ.c (constantI S_ 32 0#32), StableHlo.TRef.unary φ.c φ.v9 (broadcastInDim S65536 ![] bcast_S_S65536),
   StableHlo.TRef.binary φ.v8 φ.v9 φ.v10 (cmpi .ne), StableHlo.TRef.binary φ.v6 φ.v10 φ.v11 andi,
   StableHlo.TRef.nullary φ.c_0 (constantI S_ 32 1#32), StableHlo.TRef.unary φ.c_0 φ.v12 (broadcastInDim S65536 ![] bcast_S_S65536),
   StableHlo.TRef.binary φ.v2 φ.v12 φ.v13 subi, StableHlo.TRef.ternary φ.v11 φ.v13 φ.v2 φ.call0.v0 select]

/-- The remainder's operations. -/
def remOps (arg0 : StableHlo.TRef sig ⟨S65536, .i32⟩) (arg1 : StableHlo.TRef sig ⟨S_, .i32⟩) (φ : fn_remainder.Bufs) : List (HloOp τ sig (Elt F)) :=
  [StableHlo.TRef.unary arg1 φ.v0 id, StableHlo.TRef.nullary φ.c (constantI S_ 32 0#32), StableHlo.TRef.binary φ.v0 φ.c φ.v1 (cmpi .eq),
   StableHlo.TRef.nullary φ.c_0 (constantI S_ 32 1#32), StableHlo.TRef.ternary φ.v1 φ.c_0 φ.v0 φ.call0.v0 select,
   StableHlo.TRef.unary φ.call0.v0 φ.v3 (broadcastInDim S65536 ![] bcast_S_S65536), StableHlo.TRef.binary arg0 φ.v3 φ.v4 Host.remsi,
   StableHlo.TRef.nullary φ.c_1 (constantI S_ 32 0#32), StableHlo.TRef.unary φ.c_1 φ.v5 (broadcastInDim S65536 ![] bcast_S_S65536),
   StableHlo.TRef.binary φ.v4 φ.v5 φ.v6 (cmpi .ne), StableHlo.TRef.nullary φ.c_2 (constantI S_ 32 0#32),
   StableHlo.TRef.unary φ.c_2 φ.v7 (broadcastInDim S65536 ![] bcast_S_S65536), StableHlo.TRef.binary φ.v4 φ.v7 φ.v8 (cmpi .slt),
   StableHlo.TRef.nullary φ.c_3 (constantI S_ 32 0#32), StableHlo.TRef.binary φ.call0.v0 φ.c_3 φ.v9 (cmpi .slt),
   StableHlo.TRef.unary φ.v9 φ.v10 (broadcastInDim S65536 ![] bcast_S_S65536), StableHlo.TRef.binary φ.v8 φ.v10 φ.v11 (cmpi .ne),
   StableHlo.TRef.binary φ.v11 φ.v6 φ.v12 andi, StableHlo.TRef.unary φ.call0.v0 φ.v13 (broadcastInDim S65536 ![] bcast_S_S65536),
   StableHlo.TRef.binary φ.v4 φ.v13 φ.v14 addi, StableHlo.TRef.ternary φ.v12 φ.v14 φ.v4 φ.v15 select]

theorem floor_eq (arg0 : StableHlo.TRef sig ⟨S65536, .i32⟩) (arg1 : StableHlo.TRef sig ⟨S_, .i32⟩) (φ : fn_floor_divide.Bufs) :
    (fn_floor_divide.body arg0 arg1 φ : HostProg F) = StableHlo.seq (floorOps arg0 arg1 φ) := by
  simp only [fn_floor_divide.body, fn_where.body, floorOps, StableHlo.seq, bind_assoc, pure_bind]

theorem floor1_eq (arg0 : StableHlo.TRef sig ⟨S65536, .i32⟩) (arg1 : StableHlo.TRef sig ⟨S_, .i32⟩) (φ : fn_floor_divide_1.Bufs) :
    (fn_floor_divide_1.body arg0 arg1 φ : HostProg F) = StableHlo.seq (floorOps1 arg0 arg1 φ) := by
  simp only [fn_floor_divide_1.body, fn_where.body, floorOps1, StableHlo.seq, bind_assoc, pure_bind]

theorem rem_eq (arg0 : StableHlo.TRef sig ⟨S65536, .i32⟩) (arg1 : StableHlo.TRef sig ⟨S_, .i32⟩) (φ : fn_remainder.Bufs) :
    (fn_remainder.body arg0 arg1 φ : HostProg F) = StableHlo.seq (remOps arg0 arg1 φ) := by
  simp only [fn_remainder.body, fn_where_0.body, remOps, StableHlo.seq, bind_assoc, pure_bind]

/-! ## The lines -/

/-- Before the projection: the weights transposed and cast, the offset as one row. -/
def line0 : List (HloOp τ sig (Elt F)) :=
  [StableHlo.unary main_arg4 main_v0 ((transpose S256x64 [1, 0] · transposes_S64x256_S256x64_1_0) : (⟨S64x256, .f32⟩ : BufTy).Contents (Elt F) → (⟨S256x64, .f32⟩ : BufTy).Contents (Elt F)),
   StableHlo.unary main_v0 main_v1 ((truncf .bf16 · bitsLt_bf16_f32) : (⟨S256x64, .f32⟩ : BufTy).Contents (Elt F) → (⟨S256x64, .bf16⟩ : BufTy).Contents (Elt F)),
   StableHlo.reshape main_arg5 main_v2 (rfl : (.f32 : EltTy) = .f32) shapeCasts_S64_S1x64]

/-- The number of the block of 8192 an actor is in, -/
def line1a : List (HloOp τ sig (Elt F)) := StableHlo.nullary main_c (constantI S_ 32 8192#32) :: floorOps (.of main_arg1) (.of main_c) main_call0
/-- times 4096; -/
def line1b : List (HloOp τ sig (Elt F)) :=
  [StableHlo.nullary main_c_0 (constantI S_ 32 4096#32),
   StableHlo.unary main_c_0 main_v5 (broadcastInDim S65536 ![] bcast_S_S65536 : (⟨S_, .i32⟩ : BufTy).Contents (Elt F) → (⟨S65536, .i32⟩ : BufTy).Contents (Elt F)),
   StableHlo.binary main_v4 main_v5 main_v6 (muli : (⟨S65536, .i32⟩ : BufTy).Contents (Elt F) → (⟨S65536, .i32⟩ : BufTy).Contents (Elt F) → (⟨S65536, .i32⟩ : BufTy).Contents (Elt F))]
/-- the actor's place within its half block; -/
def line1c : List (HloOp τ sig (Elt F)) := StableHlo.nullary main_c_1 (constantI S_ 32 4096#32) :: remOps (.of main_arg1) (.of main_c_1) main_call1
/-- their sum, the row of the table; -/
def line1d : List (HloOp τ sig (Elt F)) :=
  [StableHlo.binary main_v6 main_v7 main_v8 (addi : (⟨S65536, .i32⟩ : BufTy).Contents (Elt F) → (⟨S65536, .i32⟩ : BufTy).Contents (Elt F) → (⟨S65536, .i32⟩ : BufTy).Contents (Elt F))]
/-- the actor's place within its block; -/
def line1e : List (HloOp τ sig (Elt F)) := StableHlo.nullary main_c_2 (constantI S_ 32 8192#32) :: remOps (.of main_arg1) (.of main_c_2) main_call2
/-- which half of the block it is in; -/
def line1f : List (HloOp τ sig (Elt F)) := StableHlo.nullary main_c_3 (constantI S_ 32 4096#32) :: floorOps1 (.of main_v9) (.of main_c_3) main_call3
/-- and the rows as one row of 65536. -/
def line1g : List (HloOp τ sig (Elt F)) := [StableHlo.reshape main_v8 main_v11 (rfl : (.i32 : EltTy) = .i32) shapeCasts_S65536_S1x65536]

/-- Between the projection and the gather: the index arithmetic. -/
def line1 : List (HloOp τ sig (Elt F)) := line1a ++ (line1b ++ (line1c ++ (line1d ++ (line1e ++ (line1f ++ line1g)))))

/-- Before the head: the mask transposed. -/
def line2 : List (HloOp τ sig (Elt F)) :=
  [StableHlo.unary main_arg2 main_v13 ((transpose S64x65536 [1, 0] · transposes_S65536x64_S64x65536_1_0) : (⟨S65536x64, .i32⟩ : BufTy).Contents (Elt F) → (⟨S64x65536, .i32⟩ : BufTy).Contents (Elt F))]

/-- After the head: the normalized logits transposed back. -/
def line3 : List (HloOp τ sig (Elt F)) :=
  [StableHlo.unary main_v14_0 main_v15 ((transpose S65536x64 [1, 0] · transposes_S64x65536_S65536x64_1_0) : (⟨S64x65536, .f32⟩ : BufTy).Contents (Elt F) → (⟨S65536x64, .f32⟩ : BufTy).Contents (Elt F))]

/-- `main` is the four lines with the three kernel calls between them. -/

theorem main_eq (d : Dev nD) : (main (F := F) d) = (StableHlo.seq line0 >>= fun _ =>
    Prog.lift (.customCall (SparseCore.inner (Pipeline.entry 0)) ()) >>= fun _ => StableHlo.seq line1 >>= fun _ => sc.run d 0 >>= fun _ =>
    StableHlo.seq line2 >>= fun _ => Prog.lift (.customCall (SparseCore.inner (Pipeline.entry 1)) ()) >>= fun _ => StableHlo.seq line3) := by
  simp only [main, floor_eq, floor1_eq, rem_eq, line0, line1, line1a, line1b, line1c, line1d, line1e, line1f, line1g, line2, line3,
    StableHlo.seq_append, StableHlo.seq, bind_assoc, pure_bind, List.cons_append, List.nil_append]

/-! ## Their buffers -/

/-- The unscoped references of the TensorCore. -/
abbrev ucRefs : Finset (DevRef τ sig) := (StableHlo.tcRefs τ sig).filter (fun b => ¬ b.isScoped)

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem line0_sub : ∀ op ∈ (line0 : List (HloOp τ sig (Elt F))), op.bufs ⊆ ucRefs := fun op hop => sub_ucRefs op (by
  revert op; rw [← List.forall_iff_forall_mem]
  simp [line0])
theorem line0_fresh : ∀ op ∈ (line0 : List (HloOp τ sig (Elt F))), op.fresh = ∅ := by
  rw [← List.forall_iff_forall_mem]; repeat' constructor

theorem line1_sub : ∀ op ∈ (line1 : List (HloOp τ sig (Elt F))), op.bufs ⊆ ucRefs := fun op hop => sub_ucRefs op (by
  revert op; rw [← List.forall_iff_forall_mem]
  simp [line1, line1a, line1b, line1c, line1d, line1e, line1f, line1g, floorOps, floorOps1, remOps, StableHlo.TRef.unary, StableHlo.TRef.binary,
    StableHlo.TRef.ternary, StableHlo.TRef.nullary])
theorem line1_fresh : ∀ op ∈ (line1 : List (HloOp τ sig (Elt F))), op.fresh = ∅ := by
  rw [← List.forall_iff_forall_mem]; repeat' constructor

theorem line2_sub : ∀ op ∈ (line2 : List (HloOp τ sig (Elt F))), op.bufs ⊆ ucRefs := fun op hop => sub_ucRefs op (by
  revert op; rw [← List.forall_iff_forall_mem]
  simp [line2])
theorem line2_fresh : ∀ op ∈ (line2 : List (HloOp τ sig (Elt F))), op.fresh = ∅ := by
  rw [← List.forall_iff_forall_mem]; repeat' constructor

theorem line3_sub : ∀ op ∈ (line3 : List (HloOp τ sig (Elt F))), op.bufs ⊆ ucRefs := fun op hop => sub_ucRefs op (by
  revert op; rw [← List.forall_iff_forall_mem]
  simp [line3])
theorem line3_fresh : ∀ op ∈ (line3 : List (HloOp τ sig (Elt F))), op.fresh = ∅ := by
  rw [← List.forall_iff_forall_mem]; repeat' constructor

/-! ## Their values -/

open StableHlo (after)

/-- The block's number of every actor; -/
theorem read1a (V : Valuation τ sig (Elt F)) (i : S65536.Idx) :
    after line1a V (Proc.devRef .tc main_v4) i = floorWord (V (Proc.devRef .tc main_arg1) i) 8192#32 := by
  simp only [line1a, floorOps]
  after_reads_at
  rfl

/-- its product; -/
theorem read1b (V : Valuation τ sig (Elt F)) (i : S65536.Idx) :
    after line1b V (Proc.devRef .tc main_v6) i = IntOp.muli (V (Proc.devRef .tc main_v4) i) 4096#32 := by
  simp only [line1b]
  after_reads_at

/-- the remainder by 4096; -/
theorem read1c (V : Valuation τ sig (Elt F)) (i : S65536.Idx) :
    after line1c V (Proc.devRef .tc main_v7) i = remWord (V (Proc.devRef .tc main_arg1) i) 4096#32 := by
  simp only [line1c, remOps]
  after_reads_at
  rfl

/-- the sum; -/
theorem read1d (V : Valuation τ sig (Elt F)) (i : S65536.Idx) :
    after line1d V (Proc.devRef .tc main_v8) i = IntOp.addi (V (Proc.devRef .tc main_v6) i) (V (Proc.devRef .tc main_v7) i) := by
  simp only [line1d]
  after_reads_at

/-- the remainder by 8192; -/
theorem read1e (V : Valuation τ sig (Elt F)) (i : S65536.Idx) :
    after line1e V (Proc.devRef .tc main_v9) i = remWord (V (Proc.devRef .tc main_arg1) i) 8192#32 := by
  simp only [line1e, remOps]
  after_reads_at
  rfl

/-- its quotient by 4096; -/
theorem read1f (V : Valuation τ sig (Elt F)) (i : S65536.Idx) :
    after line1f V (Proc.devRef .tc main_v10) i = floorWord (V (Proc.devRef .tc main_v9) i) 4096#32 := by
  simp only [line1f, floorOps1]
  after_reads_at
  rfl

/-- the rows as one row. -/
theorem read1g (V : Valuation τ sig (Elt F)) (s : Fin 65536) :
    after line1g V (Proc.devRef .tc main_v11) (ix2 0 s) = V (Proc.devRef .tc main_v8) (ix1 s) := by
  simp only [line1g]
  after_reads_at
  exact congrArg _ (by funext a; fin_cases a <;> rfl)

/-- The row numbers the gather reads: `rowWord` of the actors. -/
theorem read_rows (V : Valuation τ sig (Elt F)) (s : Fin 65536) :
    after line1 V (Proc.devRef .tc main_v11) (ix2 0 s) = rowWord (V (Proc.devRef .tc main_arg1) (ix1 s)) := by
  simp only [line1, StableHlo.after_append]
  rw [read1g]
  rw [show ∀ W : Valuation τ sig (Elt F), after line1f W (Proc.devRef .tc main_v8) = W (Proc.devRef .tc main_v8) from fun W => by
      simp only [line1f, floorOps1]; after_reads_simp,
    show ∀ W : Valuation τ sig (Elt F), after line1e W (Proc.devRef .tc main_v8) = W (Proc.devRef .tc main_v8) from fun W => by
      simp only [line1e, remOps]; after_reads_simp, read1d, read1c,
    show ∀ W : Valuation τ sig (Elt F), after line1c W (Proc.devRef .tc main_v6) = W (Proc.devRef .tc main_v6) from fun W => by
      simp only [line1c, remOps]; after_reads_simp, read1b, read1a,
    show ∀ W : Valuation τ sig (Elt F), after line1b W (Proc.devRef .tc main_arg1) = W (Proc.devRef .tc main_arg1) from fun W => by
      simp only [line1b]; after_reads_simp,
    show ∀ W : Valuation τ sig (Elt F), after line1a W (Proc.devRef .tc main_arg1) = W (Proc.devRef .tc main_arg1) from fun W => by
      simp only [line1a, floorOps]; after_reads_simp]
  rfl

/-- The halves the head reads: `halfWord` of the actors. -/
theorem read_half (V : Valuation τ sig (Elt F)) (i : S65536.Idx) :
    after line1 V (Proc.devRef .tc main_v10) i = halfWord (V (Proc.devRef .tc main_arg1) i) := by
  simp only [line1, StableHlo.after_append]
  rw [show ∀ W : Valuation τ sig (Elt F), after line1g W (Proc.devRef .tc main_v10) = W (Proc.devRef .tc main_v10) from fun W => by
      simp only [line1g]; after_reads_simp, read1f, read1e,
    show ∀ W : Valuation τ sig (Elt F), after line1d W (Proc.devRef .tc main_arg1) = W (Proc.devRef .tc main_arg1) from fun W => by
      simp only [line1d]; after_reads_simp,
    show ∀ W : Valuation τ sig (Elt F), after line1c W (Proc.devRef .tc main_arg1) = W (Proc.devRef .tc main_arg1) from fun W => by
      simp only [line1c, remOps]; after_reads_simp,
    show ∀ W : Valuation τ sig (Elt F), after line1b W (Proc.devRef .tc main_arg1) = W (Proc.devRef .tc main_arg1) from fun W => by
      simp only [line1b]; after_reads_simp,
    show ∀ W : Valuation τ sig (Elt F), after line1a W (Proc.devRef .tc main_arg1) = W (Proc.devRef .tc main_arg1) from fun W => by
      simp only [line1a, floorOps]; after_reads_simp]
  rfl

/-- What the line before the projection leaves: the weights transposed and cast, the offset as a row. -/
theorem read0_w (V : Valuation τ sig (Elt F)) : after line0 V (Proc.devRef .tc main_v1)
    = truncf .bf16 (transpose S256x64 [1, 0] (V (Proc.devRef .tc main_arg4) : (⟨S64x256, .f32⟩ : BufTy).Contents (Elt F)) transposes_S64x256_S256x64_1_0) bitsLt_bf16_f32 := by
  simp only [line0]; after_reads_simp

theorem read0_b (V : Valuation τ sig (Elt F)) (h : Fin 64) : after line0 V (Proc.devRef .tc main_v2) (ix2 0 h) = V (Proc.devRef .tc main_arg5) (ix1 h) := by
  simp only [line0]; after_reads_at
  exact congrArg _ (by funext a; fin_cases a <;> rfl)

/-- The line before the head leaves the mask transposed; -/
theorem read2 (V : Valuation τ sig (Elt F)) (h : Fin 64) (s : Fin 65536) :
    after line2 V (Proc.devRef .tc main_v13) (ix2 h s) = V (Proc.devRef .tc main_arg2) (ix2 s h) := by
  simp only [line2]; after_reads_at
  exact congrArg _ (by funext a; fin_cases a <;> rfl)

/-- the line after it the normalized logits. -/
theorem read3 (V : Valuation τ sig (Elt F)) (h : Fin 64) (s : Fin 65536) :
    after line3 V (Proc.devRef .tc main_v15) (ix2 s h) = V (Proc.devRef .tc main_v14_0) (ix2 h s) := by
  simp only [line3]; after_reads_at
  exact congrArg _ (by funext a; fin_cases a <;> rfl)

/-- The index arithmetic writes none of the arrays the other calls use. -/
theorem keep1 (V : Valuation τ sig (Elt F)) {b : Ref sig .tc}
    (hb : b = main_arg0 ∨ b = main_arg1 ∨ b = main_arg2 ∨ b = main_arg3 ∨ b = main_arg4 ∨ b = main_arg5 ∨ b = main_v3 ∨ b = main_v12) :
    after line1 V (Proc.devRef .tc b) = V (Proc.devRef .tc b) := by
  simp only [line1, line1a, line1b, line1c, line1d, line1e, line1f, line1g, floorOps, floorOps1, remOps, List.cons_append, List.nil_append]
  rcases hb with rfl | rfl | rfl | rfl | rfl | rfl | rfl | rfl <;> after_reads_simp

/-- Nor does the line before the projection, -/
theorem keep0 (V : Valuation τ sig (Elt F)) {b : Ref sig .tc} (h0 : b ≠ main_v0) (h1 : b ≠ main_v1) (h2 : b ≠ main_v2) :
    after line0 V (Proc.devRef .tc b) = V (Proc.devRef .tc b) :=
  StableHlo.after_unwritten [main_v0, main_v1, main_v2] rfl (by simp [h0, h1, h2]) V

/-- the one before the head, -/
theorem keep2 (V : Valuation τ sig (Elt F)) {b : Ref sig .tc} (h0 : b ≠ main_v13) :
    after line2 V (Proc.devRef .tc b) = V (Proc.devRef .tc b) :=
  StableHlo.after_unwritten [main_v13] rfl (by simp [h0]) V

/-- or the one after it. -/
theorem keep3 (V : Valuation τ sig (Elt F)) {b : Ref sig .tc} (h0 : b ≠ main_v15) :
    after line3 V (Proc.devRef .tc b) = V (Proc.devRef .tc b) :=
  StableHlo.after_unwritten [main_v15] rfl (by simp [h0]) V

end Cert.Proof.KernelIdeal

end
-- ==== Proof.KI.Views.lean ====
/-
  The pieces of the gather's arrays and buffers: the two slots of row numbers and the two slots of gathered rows in a
  tile's memory, the 256 blocks of 256 row numbers, the 256 blocks of 256 gathered rows; which elements each has, and
  what a block of gathered rows holds once the rows a block of row numbers names have been put in a slot and copied out.
-/
module

public import proofs.«01_k».proof.Proof.KI.Base
public import Idealize.ShloMosaic.Lib.ValueLayout
public import Idealize.ShloMosaic.Lib.VecWindow

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.SL.Sem

variable {F : FTy → Type}

/-- The table, the row numbers, the gathered rows, as a tile names them; and its two buffers. -/
abbrev tV : Memref sig .scVector .hbm S65536x128 .f32 := Memref.whole main_v3_scv
abbrev iV : Memref sig .scVector .hbm S1x65536 .i32 := Memref.whole main_v11_scv
abbrev oV : Memref sig .scVector .hbm S65536x128 .f32 := Memref.whole main_v12_scv
abbrev sI : Memref sig .scVector .vmem S2x1x256 .i32 := Memref.whole cc1_scoped0
abbrev sO : Memref sig .scVector .vmem S2x256x128 .f32 := Memref.whole cc1_scoped2

/-! ## The slots and the blocks -/

theorem sI_inb (k : ℕ) : ∀ a, (![k % 2, 0, 0] : Fin 3 → ℕ) a + S1x1x256.size a ≤ S2x1x256.size a := by
  intro a; fin_cases a <;> simp <;> omega
theorem sO_inb (k : ℕ) : ∀ a, (![k % 2, 0, 0] : Fin 3 → ℕ) a + S1x256x128.size a ≤ S2x256x128.size a := by
  intro a; fin_cases a <;> simp <;> omega
theorem sem_inb (k : ℕ) : ∀ a, (![k % 2] : Fin 1 → ℕ) a + S1.size a ≤ S2.size a := by
  intro a; fin_cases a; simp; omega
theorem iB_inb (n : Fin 256) : ∀ a, (![0, 256 * n.val] : Fin 2 → ℕ) a + S1x256.size a ≤ S1x65536.size a := by
  intro a; have := n.isLt; fin_cases a <;> simp; omega
theorem oB_inb (n : Fin 256) : ∀ a, (![256 * n.val, 0] : Fin 2 → ℕ) a + S256x128.size a ≤ S65536x128.size a := by
  intro a; have := n.isLt; fin_cases a <;> simp; omega

/-- The slot of row numbers trip `k` uses, -/
abbrev idxSlot (k : ℕ) : Memref sig .scVector .vmem S1x256 .i32 :=
  (sI.slice (Rect.unit (s := S2x1x256) ![k % 2, 0, 0] S1x1x256.size (sI_inb k)) (fun _ => rfl)).squeeze S1x256 squeezes_S1x1x256_S1x256
/-- as the list the gather reads. -/
abbrev offsV (k : ℕ) : Memref sig .scVector .vmem S256 .i32 :=
  ((idxSlot k).slice (Rect.unit (s := S1x256) ![0, 0] S1x256.size inb_S1x256_S1x256_0_0) (fun _ => rfl)).squeeze S256 squeezes_S1x256_S256
/-- The slot of gathered rows trip `k` uses. -/
abbrev outSlot (k : ℕ) : Memref sig .scVector .vmem S256x128 .f32 :=
  (sO.slice (Rect.unit (s := S2x256x128) ![k % 2, 0, 0] S1x256x128.size (sO_inb k)) (fun _ => rfl)).squeeze S256x128 squeezes_S1x256x128_S256x128
/-- Block `n` of the row numbers; -/
abbrev idxBlk (n : Fin 256) : Memref sig .scVector .hbm S1x256 .i32 :=
  iV.slice (Rect.unit (s := S1x65536) ![0, 256 * n.val] S1x256.size (iB_inb n)) (fun _ => rfl)
/-- block `n` of the gathered rows; -/
abbrev outBlk (n : Fin 256) : Memref sig .scVector .hbm S256x128 .f32 :=
  oV.slice (Rect.unit (s := S65536x128) ![256 * n.val, 0] S256x128.size (oB_inb n)) (fun _ => rfl)
/-- all of the table. -/
abbrev tAll : Memref sig .scVector .hbm S65536x128 .f32 :=
  tV.slice (Rect.unit (s := S65536x128) ![0, 0] S65536x128.size inb_S65536x128_S65536x128_0_0) (fun _ => rfl)
/-- The semaphore of a slot of row numbers, of a slot of gathered rows, and of the gather. -/
abbrev iSem (k : ℕ) : DmaSem sig := ((cc1_scoped1.slice (Rect.unit (s := S2) ![k % 2] S1.size (sem_inb k))).squeeze S_ squeezes_S1_S_).sem
abbrev oSem (k : ℕ) : DmaSem sig := ((cc1_scoped3.slice (Rect.unit (s := S2) ![k % 2] S1.size (sem_inb k))).squeeze S_ squeezes_S1_S_).sem
abbrev gSem : DmaSem sig := cc1_scoped4.sem

/-! ## Their elements -/

theorem true_and_iff_of {p q : Prop} (h : p) : p ∧ q ↔ q := ⟨fun x => x.2, fun x => ⟨h, x⟩⟩

theorem set_idxSlot (k : ℕ) : (idxSlot k).view.set = Finset.univ.filter fun i : S2x1x256.Idx => (i 0).val = k % 2 := by
  show ((sI.view.slice _).reshape S1x256 _).set = _
  rw [View.set_reshape]
  show ((View.whole (cc1_scoped0 : Ref sig .scVector)).slice _).set = _
  rw [View.set_slice_whole]
  refine Finset.ext fun (i : S2x1x256.Idx) => ?_
  have h1 : (i 1).val < 1 := (i 1).isLt
  have h2 : (i 2).val < 256 := (i 2).isLt
  refine Rect.mem_set_unit.trans (Iff.trans ?_ (Finset.mem_filter.trans (true_and_iff_of (Finset.mem_univ i))).symm)
  constructor
  · intro h
    have h0 := h (0 : Fin 3)
    have h0a : k % 2 ≤ (i 0).val := h0.1
    have h0b : (i 0).val < k % 2 + 1 := h0.2
    omega
  · intro h a
    match a with
    | ⟨0, _⟩ => exact ⟨by show k % 2 ≤ (i 0).val; omega, by show (i 0).val < k % 2 + 1; omega⟩
    | ⟨1, _⟩ => exact ⟨Nat.zero_le _, by show (i 1).val < 0 + 1; omega⟩
    | ⟨2, _⟩ => exact ⟨Nat.zero_le _, by show (i 2).val < 0 + 256; omega⟩

theorem set_outSlot (k : ℕ) : (outSlot k).view.set = Finset.univ.filter fun i : S2x256x128.Idx => (i 0).val = k % 2 := by
  show ((sO.view.slice _).reshape S256x128 _).set = _
  rw [View.set_reshape]
  show ((View.whole (cc1_scoped2 : Ref sig .scVector)).slice _).set = _
  rw [View.set_slice_whole]
  refine Finset.ext fun (i : S2x256x128.Idx) => ?_
  have h1 : (i 1).val < 256 := (i 1).isLt
  have h2 : (i 2).val < 128 := (i 2).isLt
  refine Rect.mem_set_unit.trans (Iff.trans ?_ (Finset.mem_filter.trans (true_and_iff_of (Finset.mem_univ i))).symm)
  constructor
  · intro h
    have h0 := h (0 : Fin 3)
    have h0a : k % 2 ≤ (i 0).val := h0.1
    have h0b : (i 0).val < k % 2 + 1 := h0.2
    omega
  · intro h a
    match a with
    | ⟨0, _⟩ => exact ⟨by show k % 2 ≤ (i 0).val; omega, by show (i 0).val < k % 2 + 1; omega⟩
    | ⟨1, _⟩ => exact ⟨Nat.zero_le _, by show (i 1).val < 0 + 256; omega⟩
    | ⟨2, _⟩ => exact ⟨Nat.zero_le _, by show (i 2).val < 0 + 128; omega⟩

theorem set_outBlk (n : Fin 256) : (outBlk n).view.set = Finset.univ.filter fun i : S65536x128.Idx => (i 0).val / 256 = n.val := by
  show ((View.whole (main_v12_scv : Ref sig .scVector)).slice _).set = _
  rw [View.set_slice_whole]
  refine Finset.ext fun (i : S65536x128.Idx) => ?_
  have h2 : (i 1).val < 128 := (i 1).isLt
  refine Rect.mem_set_unit.trans (Iff.trans ?_ (Finset.mem_filter.trans (true_and_iff_of (Finset.mem_univ i))).symm)
  constructor
  · intro h
    have h0 := h (0 : Fin 2)
    have h0a : 256 * n.val ≤ (i 0).val := h0.1
    have h0b : (i 0).val < 256 * n.val + 256 := h0.2
    omega
  · intro h a
    match a with
    | ⟨0, _⟩ => exact ⟨by show 256 * n.val ≤ (i 0).val; omega, by show (i 0).val < 256 * n.val + 256; omega⟩
    | ⟨1, _⟩ => exact ⟨Nat.zero_le _, by show (i 1).val < 0 + 128; omega⟩

theorem set_tAll : (tAll).view.set = Finset.univ := by
  show ((View.whole (main_v3_scv : Ref sig .scVector)).slice _).set = _
  rw [View.set_slice_whole]
  refine Finset.ext fun (i : S65536x128.Idx) => ?_
  have h1 : (i 0).val < 65536 := (i 0).isLt
  have h2 : (i 1).val < 128 := (i 1).isLt
  refine iff_of_true (Rect.mem_set_unit.mpr fun a => ?_) (Finset.mem_univ i)
  match a with
  | ⟨0, _⟩ => exact ⟨Nat.zero_le _, by show (i 0).val < 0 + 65536; omega⟩
  | ⟨1, _⟩ => exact ⟨Nat.zero_le _, by show (i 1).val < 0 + 128; omega⟩

theorem set_offsV (k : ℕ) : (offsV k).view.set = (idxSlot k).view.set := by
  show (((idxSlot k).view.slice _).reshape S256 _).set = _
  rw [View.set_reshape, View.set_slice]
  have : (Rect.unit (s := S1x256) ![0, 0] S1x256.size inb_S1x256_S1x256_0_0).set = Finset.univ := by
    refine Finset.ext fun (i : S1x256.Idx) => ?_
    have h1 : (i 0).val < 1 := (i 0).isLt
    have h2 : (i 1).val < 256 := (i 1).isLt
    refine iff_of_true (Rect.mem_set_unit.mpr fun a => ?_) (Finset.mem_univ i)
    match a with
    | ⟨0, _⟩ => exact ⟨Nat.zero_le _, by show (i 0).val < 0 + 1; omega⟩
    | ⟨1, _⟩ => exact ⟨Nat.zero_le _, by show (i 1).val < 0 + 256; omega⟩
  rw [this]; rfl

/-- The slots and their semaphores depend on the trip's parity alone. -/
theorem idxSlot_congr {k k' : ℕ} (h : k % 2 = k' % 2) : idxSlot k = idxSlot k' := by
  have : ∀ a b (ha : ∀ x, (![a, 0, 0] : Fin 3 → ℕ) x + S1x1x256.size x ≤ S2x1x256.size x) (hb : ∀ x, (![b, 0, 0] : Fin 3 → ℕ) x + S1x1x256.size x ≤ S2x1x256.size x),
      a = b → (sI.slice (Rect.unit (s := S2x1x256) ![a, 0, 0] S1x1x256.size ha) (fun _ => rfl)).squeeze S1x256 squeezes_S1x1x256_S1x256
        = (sI.slice (Rect.unit (s := S2x1x256) ![b, 0, 0] S1x1x256.size hb) (fun _ => rfl)).squeeze S1x256 squeezes_S1x1x256_S1x256 := by
    intro a b ha hb e; subst e; rfl
  exact this _ _ _ _ h
theorem outSlot_congr {k k' : ℕ} (h : k % 2 = k' % 2) : outSlot k = outSlot k' := by
  have : ∀ a b (ha : ∀ x, (![a, 0, 0] : Fin 3 → ℕ) x + S1x256x128.size x ≤ S2x256x128.size x) (hb : ∀ x, (![b, 0, 0] : Fin 3 → ℕ) x + S1x256x128.size x ≤ S2x256x128.size x),
      a = b → (sO.slice (Rect.unit (s := S2x256x128) ![a, 0, 0] S1x256x128.size ha) (fun _ => rfl)).squeeze S256x128 squeezes_S1x256x128_S256x128
        = (sO.slice (Rect.unit (s := S2x256x128) ![b, 0, 0] S1x256x128.size hb) (fun _ => rfl)).squeeze S256x128 squeezes_S1x256x128_S256x128 := by
    intro a b ha hb e; subst e; rfl
  exact this _ _ _ _ h
theorem iSem_val (k : ℕ) : iSem k = if k % 2 = 0 then iSem 0 else iSem 1 := by
  have : ∀ a b (ha : ∀ x, (![a] : Fin 1 → ℕ) x + S1.size x ≤ S2.size x) (hb : ∀ x, (![b] : Fin 1 → ℕ) x + S1.size x ≤ S2.size x),
      a = b → ((cc1_scoped1.slice (Rect.unit (s := S2) ![a] S1.size ha)).squeeze S_ squeezes_S1_S_).sem
        = ((cc1_scoped1.slice (Rect.unit (s := S2) ![b] S1.size hb)).squeeze S_ squeezes_S1_S_).sem := by
    intro a b ha hb e; subst e; rfl
  split
  · exact this _ _ _ _ (by omega)
  · exact this _ _ _ _ (by omega)
theorem oSem_val (k : ℕ) : oSem k = if k % 2 = 0 then oSem 0 else oSem 1 := by
  have : ∀ a b (ha : ∀ x, (![a] : Fin 1 → ℕ) x + S1.size x ≤ S2.size x) (hb : ∀ x, (![b] : Fin 1 → ℕ) x + S1.size x ≤ S2.size x),
      a = b → ((cc1_scoped3.slice (Rect.unit (s := S2) ![a] S1.size ha)).squeeze S_ squeezes_S1_S_).sem
        = ((cc1_scoped3.slice (Rect.unit (s := S2) ![b] S1.size hb)).squeeze S_ squeezes_S1_S_).sem := by
    intro a b ha hb e; subst e; rfl
  split
  · exact this _ _ _ _ (by omega)
  · exact this _ _ _ _ (by omega)
theorem iSem_congr {k k' : ℕ} (h : k % 2 = k' % 2) : iSem k = iSem k' := by rw [iSem_val k, iSem_val k', h]
theorem oSem_congr {k k' : ℕ} (h : k % 2 = k' % 2) : oSem k = oSem k' := by rw [oSem_val k, oSem_val k', h]

/-! ## What a block of gathered rows holds -/

/-- The rows of the table `tb` the row numbers `ix` name, one after the other. -/
def gathered (tb : S65536x128.Idx → Elt F .f32) (ix : S1x65536.Idx → Elt F .i32) : S65536x128.Idx → Elt F .f32 :=
  fun i => tb (ix2 ⟨(ix (ix2 (0 : Fin 1) (i 0))).toNat % 65536, Nat.mod_lt _ (by decide)⟩ (i 1))

/-- The list a gather reads, when its slot holds block `n` of the row numbers. -/
theorem read_offsV (k : ℕ) (n : Fin 256) (f : S2x1x256.Idx → Elt F .i32) (ix : S1x65536.Idx → Elt F .i32)
    (h : (idxSlot k).view.read (Elt F) f = (idxBlk n).view.read (Elt F) ix) (x : Fin 256) :
    (offsV k).view.read (Elt F) f (ix1 x) = ix (ix2 (0 : Fin 1) ⟨256 * n.val + x.val, by have := n.isLt; have := x.isLt; omega⟩) := by
  rw [Memref.read_squeeze_full]
  have e : Shape.reshapeEquiv squeezes_S1x256_S256.numel_eq (ix1 x) = ix2 (0 : Fin 1) x :=
    Shape.reshapeEquiv_eq_of_rowMajor _ (by
      rw [Shape.rowMajor_val_two, Shape.rowMajor_val_one]
      show 0 * 256 + x.val = x.val
      omega)
  show (idxSlot k).view.read (Elt F) f (Shape.reshapeEquiv squeezes_S1x256_S256.numel_eq (ix1 x)) = _
  rw [e, h]
  show ix ((Rect.unit (s := S1x65536) ![0, 256 * n.val] S1x256.size (iB_inb n)).emb (ix2 (0 : Fin 1) x)) = _
  congr 1
  funext a
  match a with
  | ⟨0, _⟩ => exact Fin.ext (show 0 + 1 * 0 = 0 from rfl)
  | ⟨1, _⟩ => exact Fin.ext (by show 256 * n.val + 1 * x.val = 256 * n.val + x.val; omega)

/-- Every word of the list is a row of the table when every row number is. -/
theorem offsV_lt (k : ℕ) (n : Fin 256) (f : S2x1x256.Idx → Elt F .i32) (ix : S1x65536.Idx → Elt F .i32)
    (h : (idxSlot k).view.read (Elt F) f = (idxBlk n).view.read (Elt F) ix) (hix : ∀ j, (ix j).toNat < 65536) (x : S256.Idx) :
    ((offsV k).view.read (Elt F) f x).toNat < S65536x128.size gathers_S65536x128_S256x128.axis := by
  obtain ⟨y, rfl⟩ : ∃ y : Fin 256, x = ix1 y := ⟨x 0, eq_ix1 x⟩
  refine (congrArg (fun z => BitVec.toNat z < 65536) (read_offsV k n f ix h y)).mpr ?_
  exact hix _

/-- What the gather puts in its slot, at row `r` and lane `j`: the gathered rows' element `(256 n + r, j)`. -/
theorem payload_apply (k : ℕ) (n : Fin 256) (tb : S65536x128.Idx → Elt F .f32) (f : S2x1x256.Idx → Elt F .i32) (ix : S1x65536.Idx → Elt F .i32)
    (h : (idxSlot k).view.read (Elt F) f = (idxBlk n).view.read (Elt F) ix) (hix : ∀ j, (ix j).toNat < 65536)
    (hin : ∀ x, ((offsV k).view.read (Elt F) f x).toNat < S65536x128.size gathers_S65536x128_S256x128.axis)
    (hn : S256.numel = S256x128.size gathers_S65536x128_S256x128.axis') (x : S256x128.Idx) :
    SparseCore.gatherPayload gathers_S65536x128_S256x128 ((tAll).view.read (Elt F) tb)
        (SparseCore.rows ((offsV k).view.read (Elt F) f) hn hin) x
      = gathered tb ix ((outBlk n).view.emb x) := by
  obtain ⟨r, j, rfl⟩ : ∃ (r : Fin 256) (j : Fin 128), x = ix2 r j := ⟨x 0, x 1, eq_ix2 x⟩
  have hn' := n.isLt
  have hr := r.isLt
  have hz : S256.rowMajor.symm (((ix2 r j : S256x128.Idx) gathers_S65536x128_S256x128.axis').cast hn.symm) = ix1 r := by
    rw [Equiv.symm_apply_eq]
    apply Fin.ext
    rw [Shape.rowMajor_val_one]
    rfl
  have hv : (SparseCore.rows ((offsV k).view.read (Elt F) f) hn hin ((ix2 r j : S256x128.Idx) gathers_S65536x128_S256x128.axis')).val
      = (ix (ix2 (0 : Fin 1) ⟨256 * n.val + r.val, by omega⟩)).toNat := by
    refine (congrArg (fun z => ((offsV k).view.read (Elt F) f z).toNat) hz).trans ?_
    exact congrArg BitVec.toNat (read_offsV k n f ix h r)
  have ho : (outBlk n).view.emb (ix2 r j) = ix2 (⟨256 * n.val + r.val, by omega⟩ : Fin 65536) j := by
    funext a
    match a with
    | ⟨0, _⟩ => exact Fin.ext (by show 256 * n.val + 1 * r.val = 256 * n.val + r.val; omega)
    | ⟨1, _⟩ => exact Fin.ext (by show 0 + 1 * j.val = j.val; omega)
  have e0 := (congrArg Fin.val (Shape.Gathers.idx_axis gathers_S65536x128_S256x128
    (SparseCore.rows ((offsV k).view.read (Elt F) f) hn hin) (ix2 r j))).trans hv
  have e1 := Shape.Gathers.idx_of_ne gathers_S65536x128_S256x128
    (SparseCore.rows ((offsV k).view.read (Elt F) f) hn hin) (ix2 r j) (1 : Fin 2) (by decide)
  have hlt := hix (ix2 (0 : Fin 1) ⟨256 * n.val + r.val, by omega⟩)
  refine Eq.trans ?_ (congrArg (gathered tb ix) ho).symm
  show tb ((tAll).view.emb (gathers_S65536x128_S256x128.idx (SparseCore.rows ((offsV k).view.read (Elt F) f) hn hin) (ix2 r j)))
    = tb (ix2 ⟨(ix (ix2 (0 : Fin 1) ⟨256 * n.val + r.val, _⟩)).toNat % 65536, _⟩ j)
  congr 1
  funext a
  match a with
  | ⟨0, _⟩ =>
    apply Fin.ext
    refine (show _ = 0 + 1 * (gathers_S65536x128_S256x128.idx (SparseCore.rows ((offsV k).view.read (Elt F) f) hn hin) (ix2 r j) (0 : Fin 2)).val from rfl).trans ?_
    refine (congrArg (fun z => 0 + 1 * z) e0).trans ?_
    show 0 + 1 * _ = _ % 65536
    rw [Nat.mod_eq_of_lt hlt]; omega
  | ⟨1, _⟩ =>
    apply Fin.ext
    refine (show _ = 0 + 1 * (gathers_S65536x128_S256x128.idx (SparseCore.rows ((offsV k).view.read (Elt F) f) hn hin) (ix2 r j) (1 : Fin 2)).val from rfl).trans ?_
    refine (congrArg (fun z => 0 + 1 * z) e1).trans ?_
    show 0 + 1 * j.val = j.val
    omega

end Cert.Proof.KernelIdeal

end
-- ==== Proof.KI.Steps.lean ====
/-
  The steps of the gather on one tile, each over the pieces of its buffers and of the arrays: fetching a block of row
  numbers into a slot and waiting for it, gathering the rows they name into a slot and waiting, copying that slot out
  to its block of the gathered rows and waiting.
-/
module

public import proofs.«01_k».proof.Proof.KI.Views

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- An array but for some of its elements. -/
def restPts (ℓ : Loc nD τ sig) (S : Finset (Idx ℓ)) (q : PosShare TreeShare) (f : Buf (Elt F) ℓ) : sProp 𝕄 := ℓ ↦[Finset.univ \ S]{q} f

/-- An array is some of its elements and the rest. -/
theorem split_at (ℓ : Loc nD τ sig) (S : Finset (Idx ℓ)) (q : PosShare TreeShare) (f : Buf (Elt F) ℓ) :
    (ℓ ↦[Finset.univ]{q} f : sProp 𝕄) ⊣⊢ iprop((ℓ ↦[S]{q} f) ∗ restPts ℓ S q f) :=
  pointsTo_split_subset (Finset.subset_univ S)

variable (d : Dev nD) (c : Fin τ.nSC) (j : Fin τ.nSub)
variable (tb : S65536x128.Idx → Elt F .f32) (ix : S1x65536.Idx → Elt F .i32)
variable (qt : PosShare TreeShare) (qi : PosShare TreeShare)

/-- The share of the row numbers a slot's fetches read under: one half for each slot. -/
def qs (k : ℕ) : PosShare TreeShare := if k % 2 = 0 then qi.left else qi.right

theorem qs_congr {k k' : ℕ} (h : k % 2 = k' % 2) : qs qi k = qs qi k' := by unfold qs; rw [h]

/-- A slot of row numbers: its elements, at `f`. -/
abbrev iSlotPts (k : ℕ) (f : S2x1x256.Idx → Elt F .i32) : sProp 𝕄 :=
  (idxSlot k).view.loc (V d c j) ↦[(idxSlot k).view.set]{fullShare} f
/-- A slot of gathered rows: its elements, at `f`. -/
abbrev oSlotPts (k : ℕ) (f : S2x256x128.Idx → Elt F .f32) : sProp 𝕄 :=
  (outSlot k).view.loc (V d c j) ↦[(outSlot k).view.set]{fullShare} f
/-- A block of the gathered rows' array, at `f`. -/
abbrev oBlkPts (n : Fin 256) (f : S65536x128.Idx → Elt F .f32) : sProp 𝕄 := oLoc d ↦[(outBlk n).view.set]{fullShare} f

/-- A slot of row numbers with no fetch under way. -/
def IFree (k : ℕ) : sProp 𝕄 :=
  iprop((∃ f, iSlotPts d c j k f) ∗ (iLoc d ↦[Finset.univ]{qs qi k} ix) ∗ semVal (V d c j, SemLoc.dma (iSem k)) 0)
/-- A slot of row numbers whose fetch of block `n` is under way. -/
def IBusy (k : ℕ) (n : Fin 256) : sProp 𝕄 :=
  iprop(Transfers.Flight countersEmb (V d c j) (SemLoc.dma (iSem k)) (default : HIx 1) ((idxSlot k).view.dmaCredit)
      iprop((∃ f, ⌜(idxSlot k).view.read (Elt F) f = (idxBlk n).view.read (Elt F) ix⌝ ∗ iSlotPts d c j k f)
        ∗ (iLoc d ↦[(idxBlk n).view.set]{qs qi k} ix))
    ∗ restPts (iLoc d) (idxBlk n).view.set (qs qi k) ix)
/-- A slot of row numbers that holds block `n`. -/
def IReady (k : ℕ) (n : Fin 256) : sProp 𝕄 :=
  iprop((∃ f, ⌜(idxSlot k).view.read (Elt F) f = (idxBlk n).view.read (Elt F) ix⌝ ∗ iSlotPts d c j k f)
    ∗ (iLoc d ↦[Finset.univ]{qs qi k} ix) ∗ semVal (V d c j, SemLoc.dma (iSem k)) 0)
/-- A slot of gathered rows with no copy under way. -/
def OFree (k : ℕ) : sProp 𝕄 :=
  iprop((∃ f, oSlotPts d c j k f) ∗ semVal (V d c j, SemLoc.dma (oSem k)) 0)
/-- A slot of gathered rows that holds block `n`'s rows. -/
def OReady (k : ℕ) (n : Fin 256) : sProp 𝕄 :=
  iprop((∃ f, ⌜∀ x, (outSlot k).view.read (Elt F) f x = gathered tb ix ((outBlk n).view.emb x)⌝ ∗ oSlotPts d c j k f)
    ∗ semVal (V d c j, SemLoc.dma (oSem k)) 0)
/-- A slot of gathered rows whose copy to block `n` is under way. -/
def OBusy (k : ℕ) (n : Fin 256) : sProp 𝕄 :=
  Transfers.Flight countersEmb (V d c j) (SemLoc.dma (oSem k)) (default : HIx 1) ((outBlk n).view.dmaCredit)
    iprop(oBlkPts d n (gathered tb ix) ∗ (∃ f, oSlotPts d c j k f))

theorem iSlotPts_congr {k k' : ℕ} (h : k % 2 = k' % 2) (f : S2x1x256.Idx → Elt F .i32) :
    (iSlotPts d c j k f : sProp 𝕄) = iSlotPts d c j k' f :=
  congrArg (fun S : Finset S2x1x256.Idx => ((V d c j).loc cc1_scoped0 ↦[S]{fullShare} f : sProp 𝕄))
    ((set_idxSlot k).trans (by rw [h, ← set_idxSlot k']))
theorem oSlotPts_congr {k k' : ℕ} (h : k % 2 = k' % 2) (f : S2x256x128.Idx → Elt F .f32) :
    (oSlotPts d c j k f : sProp 𝕄) = oSlotPts d c j k' f :=
  congrArg (fun S : Finset S2x256x128.Idx => ((V d c j).loc cc1_scoped2 ↦[S]{fullShare} f : sProp 𝕄))
    ((set_outSlot k).trans (by rw [h, ← set_outSlot k']))

theorem IFree_congr {k k' : ℕ} (h : k % 2 = k' % 2) : (IFree d c j ix qi k : sProp 𝕄) = IFree d c j ix qi k' := by
  unfold IFree; simp only [iSlotPts_congr d c j h, qs_congr qi h, iSem_congr h]
theorem OFree_congr {k k' : ℕ} (h : k % 2 = k' % 2) : (OFree (F := F) d c j k : sProp 𝕄) = OFree d c j k' := by
  unfold OFree; simp only [oSlotPts_congr d c j h, oSem_congr h]

/-- What a tile owes, its waits so far being `W` and waits of the local kind. -/
def owesN (O : CellTallies nD τ sig (HIx 1)) (W : Waits sig (HIx 1)) : sProp 𝕄 :=
  iprop(∃ W', ⌜∀ p ∈ W', p ∈ W ∨ p.2 = none⌝ ∗ owes (V d c j) O W')

variable {O : CellTallies nD τ sig (HIx 1)} {W : Waits sig (HIx 1)}

theorem fetch_start (k : ℕ) (n : Fin 256) {o1 : Fin 3 → ℕ} {o2 : Fin 2 → ℕ} {o3 : Fin 1 → ℕ}
    (e1 : o1 = ![k % 2, 0, 0]) (e2 : o2 = ![0, 256 * n.val]) (e3 : o3 = ![k % 2])
    (h1 : ∀ a, o1 a + S1x1x256.size a ≤ S2x1x256.size a) (h2 : ∀ a, o2 a + S1x256.size a ≤ S1x65536.size a)
    (h3 : ∀ a, o3 a + S1.size a ≤ S2.size a) {hsrc hdst hsem} (Q : PUnit → sProp 𝕄) :
    iprop(IFree d c j ix qi k ∗ (IBusy d c j ix qi k n -∗ Q ⟨⟩))
      ⊢ wp frame (wpE (defs₀ (F := F)) 𝒱₀ (V d c j) none) Set.univ
        (Prog.lift (TpuEff.enqueueDma (p := Proc.scVector c j) (iV.slice (Rect.unit (s := S1x65536) o2 S1x256.size h2) (fun _ => rfl))
          (.here ((sI.slice (Rect.unit (s := S2x1x256) o1 S1x1x256.size h1) (fun _ => rfl)).squeeze S1x256 squeezes_S1x1x256_S1x256))
          (.dma ((cc1_scoped1.slice (Rect.unit (s := S2) o3 S1.size h3)).squeeze S_ squeezes_S1_S_).sem) hsrc hdst hsem)) Q := by
  subst e1 e2 e3
  unfold IFree IBusy
  iintro ⟨⟨⟨%f, Hs⟩, Hi, Hv⟩, HQ⟩
  ihave Hi' := (split_at (iLoc d) (idxBlk n).view.set (qs qi k) ix).1 $$ Hi
  icases Hi' with ⟨Hi, Hr⟩
  iapply (Transfers.wp_dmaLocal countersEmb 𝒱₀ (V d c j) none (src := idxBlk n) (dst := idxSlot k) (via := .same) (sm := .dma (iSem k))
    (fs := ix) (fd := f) (q := qs qi k) (Sd := (idxSlot k).view.set) (default : HIx 1) ((idxSlot k).view.dmaCredit) rfl
    (View.dmaCredit_pos _ (by decide)) (Finset.Subset.refl _)) $$ [Hs Hi Hv]
  · isplitl [Hi]; · iexact Hi
    isplitl [Hs]; · iexact Hs
    iexact Hv
  iintro Hfl
  sl_step
  iapply HQ
  isplitl [Hfl]
  · iapply (Transfers.Flight_mono countersEmb (V d c j) ?_) $$ Hfl
    iintro ⟨Hs, Hi⟩
    isplitl [Hs]
    · iexists _
      isplitr
      swap; · iexact Hs
      ipureintro; exact View.read_write_univ _ _
    · iexact Hi
  · iexact Hr

theorem fetch_wait (k : ℕ) (n : Fin 256) {o1 : Fin 3 → ℕ} {o2 : Fin 2 → ℕ} {o3 : Fin 1 → ℕ}
    (e1 : o1 = ![k % 2, 0, 0]) (e2 : o2 = ![0, 256 * n.val]) (e3 : o3 = ![k % 2])
    (h1 : ∀ a, o1 a + S1x1x256.size a ≤ S2x1x256.size a) (h2 : ∀ a, o2 a + S1x256.size a ≤ S1x65536.size a)
    (h3 : ∀ a, o3 a + S1.size a ≤ S2.size a) {hsrc hdst} (Q : PUnit → sProp 𝕄) :
    iprop(Transfers.MayWaits (V d c j) (default : HIx 1) O ∗ IBusy d c j ix qi k n ∗ owesN (F := F) d c j O W
        ∗ ((IReady d c j ix qi k n ∗ owesN (F := F) d c j O W) -∗ Q ⟨⟩))
      ⊢ wp frame (wpE (defs₀ (F := F)) 𝒱₀ (V d c j) none) Set.univ
        (Prog.lift (TpuEff.waitDma2 (p := Proc.scVector c j) ((cc1_scoped1.slice (Rect.unit (s := S2) o3 S1.size h3)).squeeze S_ squeezes_S1_S_).sem
          (iV.slice (Rect.unit (s := S1x65536) o2 S1x256.size h2) (fun _ => rfl))
          ((sI.slice (Rect.unit (s := S2x1x256) o1 S1x1x256.size h1) (fun _ => rfl)).squeeze S1x256 squeezes_S1x1x256_S1x256) hsrc hdst)) Q := by
  subst e1 e2 e3
  unfold IBusy IReady owesN
  iintro ⟨#Hmw, ⟨Hfl, Hr⟩, ⟨%W', %hW', HO⟩, HQ⟩
  iapply (Transfers.wp_waitLocalO countersEmb 𝒱₀ (V d c j) none (default : HIx 1) (dstw := idxSlot k) (rfl : (idxSlot k).view.dmaCredit = _)) $$ [Hfl HO]
  · isplitl [Hfl]; · iexact Hfl
    isplitl [HO]; · iexact HO
    iapply (Transfers.MayWaits.elim (SemLoc.dma (iSem k))) $$ Hmw
  iintro ⟨⟨Hs, Hi⟩, Hv, HO⟩
  sl_step
  iapply HQ
  ihave Hi' := (split_at (iLoc d) (idxBlk n).view.set (qs qi k) ix).2 $$ [Hi Hr]
  · isplitl [Hi] <;> iassumption
  isplitr [HO]
  · isplitl [Hs]; · iexact Hs
    isplitl [Hi']; · iexact Hi'
    iexact Hv
  · iexists _
    isplitr
    swap; · iexact HO
    ipureintro; intro p hp
    rcases Finset.mem_insert.mp hp with hp | hp
    · exact .inr (hp ▸ rfl)
    · exact hW' p hp

theorem copy_start (k : ℕ) (n : Fin 256) {o1 : Fin 3 → ℕ} {o2 : Fin 2 → ℕ} {o3 : Fin 1 → ℕ}
    (e1 : o1 = ![k % 2, 0, 0]) (e2 : o2 = ![256 * n.val, 0]) (e3 : o3 = ![k % 2])
    (h1 : ∀ a, o1 a + S1x256x128.size a ≤ S2x256x128.size a) (h2 : ∀ a, o2 a + S256x128.size a ≤ S65536x128.size a)
    (h3 : ∀ a, o3 a + S1.size a ≤ S2.size a) (g : S65536x128.Idx → Elt F .f32) {hsrc hdst hsem} (Q : PUnit → sProp 𝕄) :
    iprop(OReady d c j tb ix k n ∗ oBlkPts d n g ∗ (OBusy d c j tb ix k n -∗ Q ⟨⟩))
      ⊢ wp frame (wpE (defs₀ (F := F)) 𝒱₀ (V d c j) none) Set.univ
        (Prog.lift (TpuEff.enqueueDma (p := Proc.scVector c j)
          ((sO.slice (Rect.unit (s := S2x256x128) o1 S1x256x128.size h1) (fun _ => rfl)).squeeze S256x128 squeezes_S1x256x128_S256x128)
          (.here (oV.slice (Rect.unit (s := S65536x128) o2 S256x128.size h2) (fun _ => rfl)))
          (.dma ((cc1_scoped3.slice (Rect.unit (s := S2) o3 S1.size h3)).squeeze S_ squeezes_S1_S_).sem) hsrc hdst hsem)) Q := by
  subst e1 e2 e3
  unfold OReady OBusy
  iintro ⟨⟨⟨%f, %hf, Hs⟩, Hv⟩, Hb, HQ⟩
  iapply (Transfers.wp_dmaLocal countersEmb 𝒱₀ (V d c j) none (src := outSlot k) (dst := outBlk n) (via := .same) (sm := .dma (oSem k))
    (fs := f) (fd := g) (q := fullShare) (Sd := (outBlk n).view.set) (default : HIx 1) ((outBlk n).view.dmaCredit) rfl
    (View.dmaCredit_pos _ (by decide)) (Finset.Subset.refl _)) $$ [Hs Hb Hv]
  · isplitl [Hs]; · iexact Hs
    isplitl [Hb]; · iexact Hb
    iexact Hv
  iintro Hfl
  sl_step
  iapply HQ
  iapply (Transfers.Flight_mono countersEmb (V d c j) ?_) $$ Hfl
  iintro ⟨Hb, Hs⟩
  isplitl [Hb]
  · iapply (Entails.of_eq (pointsTo_congr (f := (outBlk n).view.write (Elt F) g ((ReadAs.same).apply ((outSlot k).view.read (Elt F) f)) Finset.univ) (g := gathered tb ix) ?_)) $$ Hb
    intro i hi
    obtain ⟨x, -, rfl⟩ := Finset.mem_map.mp hi
    refine (View.write_emb_of_mem _ _ (Finset.mem_univ x)).trans ?_
    exact (cast_eq _ _).trans (hf x)
  · iexists _; iexact Hs

theorem copy_wait (k : ℕ) (n : Fin 256) {o1 : Fin 3 → ℕ} {o2 : Fin 2 → ℕ} {o3 : Fin 1 → ℕ}
    (e1 : o1 = ![k % 2, 0, 0]) (e2 : o2 = ![256 * n.val, 0]) (e3 : o3 = ![k % 2])
    (h1 : ∀ a, o1 a + S1x256x128.size a ≤ S2x256x128.size a) (h2 : ∀ a, o2 a + S256x128.size a ≤ S65536x128.size a)
    (h3 : ∀ a, o3 a + S1.size a ≤ S2.size a) {hsrc hdst} (Q : PUnit → sProp 𝕄) :
    iprop(Transfers.MayWaits (V d c j) (default : HIx 1) O ∗ OBusy d c j tb ix k n ∗ owesN (F := F) d c j O W
        ∗ ((OFree d c j k ∗ oBlkPts d n (gathered tb ix) ∗ owesN (F := F) d c j O W) -∗ Q ⟨⟩))
      ⊢ wp frame (wpE (defs₀ (F := F)) 𝒱₀ (V d c j) none) Set.univ
        (Prog.lift (TpuEff.waitDma2 (p := Proc.scVector c j) ((cc1_scoped3.slice (Rect.unit (s := S2) o3 S1.size h3)).squeeze S_ squeezes_S1_S_).sem
          ((sO.slice (Rect.unit (s := S2x256x128) o1 S1x256x128.size h1) (fun _ => rfl)).squeeze S256x128 squeezes_S1x256x128_S256x128)
          (oV.slice (Rect.unit (s := S65536x128) o2 S256x128.size h2) (fun _ => rfl)) hsrc hdst)) Q := by
  subst e1 e2 e3
  unfold OBusy OFree owesN
  iintro ⟨#Hmw, Hfl, ⟨%W', %hW', HO⟩, HQ⟩
  iapply (Transfers.wp_waitLocalO countersEmb 𝒱₀ (V d c j) none (default : HIx 1) (dstw := outBlk n) (rfl : (outBlk n).view.dmaCredit = _)) $$ [Hfl HO]
  · isplitl [Hfl]; · iexact Hfl
    isplitl [HO]; · iexact HO
    iapply (Transfers.MayWaits.elim (SemLoc.dma (oSem k))) $$ Hmw
  iintro ⟨⟨Hb, Hs⟩, Hv, HO⟩
  sl_step
  iapply HQ
  isplitl [Hs Hv]
  · isplitl [Hs]; · iexact Hs
    iexact Hv
  isplitl [Hb]; · iexact Hb
  iexists _
  isplitr
  swap; · iexact HO
  ipureintro; intro p hp
  rcases Finset.mem_insert.mp hp with hp | hp
  · exact .inr (hp ▸ rfl)
  · exact hW' p hp

/-- The gather and its wait: the slot of row numbers comes back, the slot of rows holds the block's rows. -/
theorem gather_step (hix : ∀ x, (ix x).toNat < 65536) (k : ℕ) (n : Fin 256) {o1 o2 : Fin 3 → ℕ}
    (e1 : o1 = ![k % 2, 0, 0]) (e2 : o2 = ![k % 2, 0, 0])
    (h1 : ∀ a, o1 a + S1x256x128.size a ≤ S2x256x128.size a) (h2 : ∀ a, o2 a + S1x1x256.size a ≤ S2x1x256.size a)
    {hsrc he hsp hsrc' hdst' hp hn hr} (Q : PUnit → sProp 𝕄) :
    iprop(Transfers.MayWaits (V d c j) (default : HIx 1) O ∗ IReady d c j ix qi k n ∗ OFree d c j k ∗ (tLoc d ↦[Finset.univ]{qt} tb)
        ∗ semVal (V d c j, SemLoc.dma gSem) 0 ∗ owesN (F := F) d c j O W
        ∗ ((IFree d c j ix qi k ∗ OReady d c j tb ix k n ∗ (tLoc d ↦[Finset.univ]{qt} tb)
            ∗ semVal (V d c j, SemLoc.dma gSem) 0 ∗ owesN (F := F) d c j O W) -∗ Q ⟨⟩))
      ⊢ wp frame (wpE (defs₀ (F := F)) 𝒱₀ (V d c j) none) Set.univ
        (SparseCore.enqueueIndirectGather (p := Proc.scVector c j) (a := 0) hp tAll
          ((sO.slice (Rect.unit (s := S2x256x128) o1 S1x256x128.size h1) (fun _ => rfl)).squeeze S256x128 squeezes_S1x256x128_S256x128)
          gathers_S65536x128_S256x128
          ((((sI.slice (Rect.unit (s := S2x1x256) o2 S1x1x256.size h2) (fun _ => rfl)).squeeze S1x256 squeezes_S1x1x256_S1x256).slice
            (Rect.unit (s := S1x256) ![0, 0] S1x256.size inb_S1x256_S1x256_0_0) (fun _ => rfl)).squeeze S256 squeezes_S1x256_S256) hn gSem hsrc he hsp hr)
        (fun _ => wp frame (wpE (defs₀ (F := F)) 𝒱₀ (V d c j) none) Set.univ
          (SparseCore.waitIndirectGather (p := Proc.scVector c j) gSem tAll
            ((sO.slice (Rect.unit (s := S2x256x128) o1 S1x256x128.size h1) (fun _ => rfl)).squeeze S256x128 squeezes_S1x256x128_S256x128) hsrc' hdst') Q) := by
  subst e1 e2
  unfold IReady IFree OReady OFree owesN
  iintro ⟨#Hmw, ⟨⟨%f, %hf, Hs⟩, Hi, Hiv⟩, ⟨⟨%fo, Ho⟩, Hov⟩, Ht, Hg, ⟨%W', %hW', HO⟩, HQ⟩
  rw [← wp_bind]
  have hin := offsV_lt k n f ix hf hix
  have hN : ∑ r, ((outSlot k).slice (S256x128.rowRect gathers_S65536x128_S256x128.axis' r) (S256x128.stride_rowRect _ r)).view.dmaCredit
      = (outSlot k).view.dmaCredit := SparseCore.sum_rowCredit_eq_dmaCredit (outSlot k) gathers_S65536x128_S256x128.axis' (fun _ => rfl)
  ihave Ht' := (Entails.of_eq (congrArg (fun S : Finset S65536x128.Idx => (tLoc d ↦[S]{qt} tb : sProp 𝕄)) set_tAll.symm)) $$ Ht
  ihave Hs' := (Entails.of_eq (congrArg (fun S : Finset S2x1x256.Idx => ((V d c j).loc cc1_scoped0 ↦[S]{fullShare} f : sProp 𝕄)) (set_offsV k).symm)) $$ Hs
  iapply (SparseCore.wp_indirectGatherLocal countersEmb 𝒱₀ (V d c j) none (src := tAll) (dst := outSlot k) (offs := offsV k)
    (hg := gathers_S65536x128_S256x128) (fs := tb) (fd := fo) (fo := f) (default : HIx 1)
      (outSlot k).view.dmaCredit hN (by decide) hin) $$ [Ht' Ho Hs' Hg]
  · isplitl [Ht']; · iexact Ht'
    isplitl [Ho]; · iexact Ho
    isplitl [Hs']; · iexact Hs'
    iexact Hg
  iintro Hfl
  unfold SparseCore.waitIndirectGather
  iapply (Transfers.wp_waitLocalO countersEmb 𝒱₀ (V d c j) none (default : HIx 1) (dstw := outSlot k) (rfl : (outSlot k).view.dmaCredit = _)) $$ [Hfl HO]
  · isplitl [Hfl]; · iexact Hfl
    isplitl [HO]; · iexact HO
    iapply (Transfers.MayWaits.elim (SemLoc.dma gSem)) $$ Hmw
  iintro ⟨⟨Ho, Ht', Hs'⟩, Hg, HO⟩
  ihave Ht := (Entails.of_eq (congrArg (fun S : Finset S65536x128.Idx => (tLoc d ↦[S]{qt} tb : sProp 𝕄)) set_tAll)) $$ Ht'
  ihave Hs := (Entails.of_eq (congrArg (fun S : Finset S2x1x256.Idx => ((V d c j).loc cc1_scoped0 ↦[S]{fullShare} f : sProp 𝕄)) (set_offsV k))) $$ Hs'
  sl_step
  iapply HQ
  isplitl [Hs Hi Hiv]
  · isplitl [Hs]; · iexists _; iexact Hs
    isplitl [Hi]; · iexact Hi
    iexact Hiv
  isplitl [Ho Hov]
  · isplitl [Ho]
    · iexists _
      isplitr
      swap; · iexact Ho
      ipureintro; intro x
      exact (congrFun (View.read_write_univ _ _) x).trans (payload_apply k n tb f ix hf hix hin _ x)
    · iexact Hov
  isplitl [Ht]; · iexact Ht
  isplitl [Hg]; · iexact Hg
  iexists _
  isplitr
  swap; · iexact HO
  ipureintro; intro p hp
  rcases Finset.mem_insert.mp hp with hp | hp
  · exact .inr (hp ▸ rfl)
  · exact hW' p hp

end Cert.Proof.KernelIdeal

end
-- ==== Proof.KI.Tile.lean ====
/-
  The gather on one tile: its eight trips, two slots of row numbers and two of gathered rows used in turn, each trip
  starting the next fetch, waiting for its own, gathering, starting its copy out and waiting for the trip before's.
-/
module

public import proofs.«01_k».proof.Proof.KI.Steps
public import proofs.«01_k».proof.Proof.Gen.KernelIdeal.Skeleton

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A tile's core and subcore. -/
abbrev cV (L : grid1.Coords) : Fin τ.nSC := (L 0).castLE hcore1
abbrev jV (L : grid1.Coords) : Fin τ.nSub := (L 1).castLE hsub1

variable (d : Dev nD) (L : grid1.Coords)
variable (tb : S65536x128.Idx → Elt F .f32) (ix : S1x65536.Idx → Elt F .i32) (o₀ : S65536x128.Idx → Elt F .f32)
variable (qt : PosShare TreeShare) (qi : PosShare TreeShare)
variable (O : CellTallies nD τ sig (HIx 1)) (W : Waits sig (HIx 1))

/-- A step that is taken or not, as a condition says. -/
theorem dite_step {thr : Thread nD τ} {R R' : sProp 𝕄} {p : Prop} [Decidable p] {α : Type}
    {A : p → Prog (TpuEff nD τ sig (Elt F) Λ₀ thr.2) PUnit} {k : Prog (TpuEff nD τ sig (Elt F) Λ₀ thr.2) α} {Q : α → sProp 𝕄}
    (hA : ∀ (h : p) (Q' : PUnit → sProp 𝕄), iprop(R ∗ (R' -∗ Q' ⟨⟩)) ⊢ wp frame (wpE (defs₀ (F := F)) 𝒱₀ thr none) Set.univ (A h) Q')
    (hB : ¬p → R ⊢ R') :
    iprop(R ∗ (R' -∗ wp frame (wpE (defs₀ (F := F)) 𝒱₀ thr none) Set.univ k Q))
      ⊢ wp frame (wpE (defs₀ (F := F)) 𝒱₀ thr none) Set.univ (dite p (fun h => A h >>= fun _ => k) (fun _ => k)) Q := by
  by_cases h : p
  · rw [dif_pos h, wp_bind]; exact hA h (fun _ => wp frame (wpE (defs₀ (F := F)) 𝒱₀ thr none) Set.univ k Q)
  · rw [dif_neg h]
    iintro ⟨HR, HQ⟩
    iapply HQ
    iapply (hB h) $$ HR

/-- A condition with nothing under it. -/
theorem ite_skip {thr : Thread nD τ} {p : Prop} [Decidable p] {Q : PUnit → sProp 𝕄} :
    Q ⟨⟩ ⊢ wp frame (wpE (defs₀ (F := F)) 𝒱₀ thr none) Set.univ
      (if p then (pure ⟨⟩ : Prog (TpuEff nD τ sig (Elt F) Λ₀ thr.2) PUnit) else pure ⟨⟩) Q := by
  rw [ite_self, wp_pure]; exact fupd_intro

/-- The five words a trip leaves, as the kernel computes them from those it had. -/
def wStep (L : grid1.Coords) (t : Fin k1_t1_loop.trips) : BitVec 32 × BitVec 32 × BitVec 32 × BitVec 32 × BitVec 32 :=
  (Scalar.select (Scalar.andi (Scalar.andi (Scalar.cmpi .ne (Scalar.addi (w10 t.val) (wBase L)) (Scalar.addi (Scalar.select (Scalar.cmpi .eq (Scalar.select 1#1 (Scalar.addi (w10 t.val) 1#32) (w10 t.val)) 8#32) 0#32 (Scalar.select 1#1 (Scalar.addi (w10 t.val) 1#32) (w10 t.val))) (wBase L))) (Scalar.xori (Scalar.cmpi .sge (Scf.iv 0#32 1#32 t.val) 7#32) 1#1)) 1#1) (Scalar.addi (w6 t.val) 1#32) (w6 t.val),
        Scalar.select (Scalar.ori (Scalar.cmpi .ne (Scalar.addi (w10 t.val) (wBase L)) (Scalar.addi (Scalar.select (Scalar.cmpi .eq (Scalar.select 1#1 (Scalar.addi (w10 t.val) 1#32) (w10 t.val)) 8#32) 0#32 (Scalar.select 1#1 (Scalar.addi (w10 t.val) 1#32) (w10 t.val))) (wBase L))) (Scalar.cmpi .eq (Scf.iv 0#32 1#32 t.val) 7#32)) (Scalar.addi (w7 t.val) 1#32) (w7 t.val),
        Scalar.select (Scalar.andi (Scalar.ori (Scalar.cmpi .ne (Scalar.addi (w10 t.val) (wBase L)) (Scalar.addi (Scalar.select (Scalar.cmpi .eq (Scalar.select 1#1 (Scalar.addi (w10 t.val) 1#32) (w10 t.val)) 8#32) 0#32 (Scalar.select 1#1 (Scalar.addi (w10 t.val) 1#32) (w10 t.val))) (wBase L))) (Scalar.cmpi .eq (Scf.iv 0#32 1#32 t.val) 7#32)) 1#1) (Scalar.addi (w7 t.val) 1#32) (w7 t.val),
        Scalar.select (Scalar.andi (Scalar.andi (Scalar.cmpi .ne (Scalar.addi (w10 t.val) (wBase L)) (Scalar.addi (Scalar.select (Scalar.cmpi .eq (Scalar.select 1#1 (Scalar.subi (w10 t.val) 1#32) (w10 t.val)) 4294967295#32) 7#32 (Scalar.select 1#1 (Scalar.subi (w10 t.val) 1#32) (w10 t.val))) (wBase L))) (Scalar.xori (Scalar.cmpi .eq (Scf.iv 0#32 1#32 t.val) 0#32) 1#1)) 1#1) (Scalar.addi (w9 t.val) 1#32) (w9 t.val),
        Scalar.select (Scalar.cmpi .eq (Scalar.select 1#1 (Scalar.addi (w10 t.val) 1#32) (w10 t.val)) 8#32) 0#32 (Scalar.select 1#1 (Scalar.addi (w10 t.val) 1#32) (w10 t.val)))

/-- They are the next trip's. -/
theorem words_next (L : grid1.Coords) : ∀ t : Fin k1_t1_loop.trips, wStep L t = wAll (t.val + 1) :=
  forallTile (P := fun L => ∀ t : Fin k1_t1_loop.trips, wStep L t = wAll (t.val + 1)) (by decide +kernel) L

/-- Blocks of the gathered rows: written, and still to be written. -/
def done (k : ℕ) : sProp 𝕄 := bigSep (Finset.range k) fun i => oBlkPts (F := F) d (blk L i) (gathered tb ix)
def todo (k : ℕ) : sProp 𝕄 := bigSep (Finset.Ico k 8) fun i => oBlkPts (F := F) d (blk L i) o₀

/-- What the tile holds before trip `k`. -/
def Inv (k : ℕ) : sProp 𝕄 :=
  iprop((if k < 8 then IBusy d (cV L) (jV L) ix qi k (blk L k) else IFree d (cV L) (jV L) ix qi k)
    ∗ IFree d (cV L) (jV L) ix qi (k + 1) ∗ OFree (F := F) d (cV L) (jV L) k
    ∗ (if 0 < k then OBusy d (cV L) (jV L) tb ix (k - 1) (blk L (k - 1)) else OFree (F := F) d (cV L) (jV L) (k + 1))
    ∗ done d L tb ix (k - 1) ∗ todo d L o₀ k
    ∗ (tLoc d ↦[Finset.univ]{qt} tb) ∗ semVal (V d (cV L) (jV L), SemLoc.dma gSem) 0 ∗ owesN (F := F) d (cV L) (jV L) O W)

theorem todo_step {k : ℕ} (hk : k < 8) :
    (todo d L o₀ k : sProp 𝕄) = iprop(oBlkPts (F := F) d (blk L k) o₀ ∗ todo d L o₀ (k + 1)) := by
  unfold todo
  rw [show Finset.Ico k 8 = insert k (Finset.Ico (k + 1) 8) from by ext x; simp only [Finset.mem_insert, Finset.mem_Ico]; omega,
    bigSep_insert (by simp)]
  rfl
theorem done_step (k : ℕ) :
    (done d L tb ix (k + 1) : sProp 𝕄) = iprop(oBlkPts (F := F) d (blk L k) (gathered tb ix) ∗ done d L tb ix k) := by
  unfold done
  rw [Finset.range_add_one, bigSep_insert (by simp)]
  rfl

set_option maxHeartbeats 4000000 in
theorem trip (hix : ∀ x, (ix x).toNat < 65536) (t : Fin k1_t1_loop.trips) :
    iprop(Transfers.MayWaits (V d (cV L) (jV L)) (default : HIx 1) O ∗ Inv d L tb ix o₀ qt qi O W t.val)
      ⊢ wp frame (wpE (defs₀ (F := F)) 𝒱₀ (V d (cV L) (jV L)) none) Set.univ
        (k1_t1_body (F := F) L tV (Memref.isWhole_whole _) iV (Memref.isWhole_whole _) oV (Memref.isWhole_whole _)
          sI (Memref.isWhole_whole _) cc1_scoped1 sO (Memref.isWhole_whole _) cc1_scoped3 cc1_scoped4 (wBase L) t (wAll t.val))
        (fun acc => iprop(⌜acc = wAll (t.val + 1)⌝ ∗ Inv d L tb ix o₀ qt qi O W (t.val + 1))) := by
  have ht : t.val < 8 := t.isLt
  rw [← words_next L t]
  unfold k1_t1_body wAll
  simp only [k1_part1_eq_skeleton, k1_part2_eq_skeleton]
  unfold k1_part1_skel k1_part2_skel
  simp only [wp_bind, ite_self, pure_bind]
  iintro ⟨#Hmw, HI⟩
  unfold Inv
  rw [if_pos ht]
  icases HI with ⟨Hib, Hif, Hof, Hob, Hdone, Htodo, Ht, Hg, HO⟩
  iapply (wp_assume 𝒱₀ (V d (cV L) (jV L)) none Set.univ (chk3_ok t))
  rw [wp_ret]; iapply fupd_intro
  iapply (wp_assume 𝒱₀ (V d (cV L) (jV L)) none Set.univ (chk2_ok t))
  rw [wp_ret]; iapply fupd_intro
  iapply (wp_assume 𝒱₀ (V d (cV L) (jV L)) none Set.univ (chk1_ok L t))
  rw [wp_ret]; iapply fupd_intro
  -- the next trip's row numbers are asked for
  iapply (dite_step (thr := V d (cV L) (jV L)) (R := IFree d (cV L) (jV L) ix qi (t.val + 1))
    (R' := iprop(if t.val + 1 < 8 then IBusy d (cV L) (jV L) ix qi (t.val + 1) (blk L (t.val + 1)) else IFree d (cV L) (jV L) ix qi (t.val + 1))) ?hA1 ?hB1)
  case hA1 =>
    intro h Q'
    have h7 := (cond1_iff L t).mp h
    rw [if_pos (by omega : t.val + 1 < 8)]
    exact fetch_start d (cV L) (jV L) ix qi (t.val + 1) (blk L (t.val + 1)) (off4_eq t h7) (off5_eq L t h7) (off6_eq t h7) _ _ _ Q'
  case hB1 =>
    intro h
    have h7 : ¬ t.val < 7 := fun h7 => h ((cond1_iff L t).mpr h7)
    rw [if_neg (by omega : ¬ t.val + 1 < 8)]
  isplitl [Hif]; · iexact Hif
  iintro Hinext
  rw [wp_pure]; iapply fupd_intro
  -- this trip's are waited for
  iapply (dite_step (thr := V d (cV L) (jV L)) (R := iprop(Transfers.MayWaits (V d (cV L) (jV L)) (default : HIx 1) O
      ∗ IBusy d (cV L) (jV L) ix qi t.val (blk L t.val) ∗ owesN (F := F) d (cV L) (jV L) O W))
    (R' := iprop(IReady d (cV L) (jV L) ix qi t.val (blk L t.val) ∗ owesN (F := F) d (cV L) (jV L) O W)) ?hA2 ?hB2)
  case hA2 =>
    intro h Q'
    iintro ⟨⟨H1, H2, H3⟩, H4⟩
    iapply (fetch_wait d (cV L) (jV L) ix qi (O := O) (W := W) t.val (blk L t.val) (off7_eq t) (off8_eq L t) (off9_eq t) _ _ _ Q')
    isplitl [H1]; · iexact H1
    isplitl [H2]; · iexact H2
    isplitl [H3]; · iexact H3
    iexact H4
  case hB2 => intro h; exact absurd (cond2_ok L t) h
  isplitl [Hib HO]
  · isplitr; · iexact Hmw
    isplitl [Hib]; · iexact Hib
    iexact HO
  iintro ⟨Hir, HO⟩
  -- the gather and its wait
  simp only [wp_bind]
  iapply (gather_step d (cV L) (jV L) tb ix qt qi (O := O) (W := W) hix t.val (blk L t.val) (off10_eq t) (off11_eq t) _ _ _)
  isplitr; · iexact Hmw
  isplitl [Hir]; · iexact Hir
  isplitl [Hof]; · iexact Hof
  isplitl [Ht]; · iexact Ht
  isplitl [Hg]; · iexact Hg
  isplitl [HO]; · iexact HO
  iintro ⟨Hif, Hor, Ht, Hg, HO⟩
  rw [wp_pure]; iapply fupd_intro
  -- the block of rows starts out
  ihave Htodo' := (Entails.of_eq (todo_step d L o₀ ht)) $$ Htodo
  icases Htodo' with ⟨Hblk, Htodo⟩
  iapply (dite_step (thr := V d (cV L) (jV L)) (R := iprop(OReady d (cV L) (jV L) tb ix t.val (blk L t.val) ∗ oBlkPts (F := F) d (blk L t.val) o₀))
    (R' := OBusy d (cV L) (jV L) tb ix t.val (blk L t.val)) ?hA3 ?hB3)
  case hA3 =>
    intro h Q'
    iintro ⟨⟨H1, H2⟩, H3⟩
    iapply (copy_start d (cV L) (jV L) tb ix t.val (blk L t.val) (off12_eq t) (off13_eq L t) (off14_eq t) _ _ _ o₀ Q')
    isplitl [H1]; · iexact H1
    isplitl [H2]; · iexact H2
    iexact H3
  case hB3 => intro h; exact absurd (cond5_ok L t) h
  isplitl [Hor Hblk]
  · isplitl [Hor] <;> iassumption
  iintro Hobn
  -- the trip before's block is waited for
  iapply (dite_step (thr := V d (cV L) (jV L)) (R := iprop(Transfers.MayWaits (V d (cV L) (jV L)) (default : HIx 1) O
      ∗ (if 0 < t.val then OBusy d (cV L) (jV L) tb ix (t.val - 1) (blk L (t.val - 1)) else OFree (F := F) d (cV L) (jV L) (t.val + 1))
      ∗ done d L tb ix (t.val - 1) ∗ owesN (F := F) d (cV L) (jV L) O W))
    (R' := iprop(OFree (F := F) d (cV L) (jV L) (t.val + 1) ∗ done d L tb ix t.val ∗ owesN (F := F) d (cV L) (jV L) O W)) ?hA4 ?hB4)
  case hA4 =>
    intro h Q'
    have h0 := (cond7_iff L t).mp h
    rw [if_pos h0]
    iintro ⟨⟨H1, H2, H3, H4⟩, H5⟩
    iapply (copy_wait d (cV L) (jV L) tb ix (O := O) (W := W) (t.val - 1) (blk L (t.val - 1)) (off15_eq t h0) (off16_eq L t h0) (off17_eq t h0) _ _ _ Q')
    isplitl [H1]; · iexact H1
    isplitl [H2]; · iexact H2
    isplitl [H4]; · iexact H4
    iintro ⟨H6, H7, H8⟩
    iapply H5
    rw [OFree_congr d (cV L) (jV L) (show (t.val + 1) % 2 = (t.val - 1) % 2 by omega)]
    isplitl [H6]; · iexact H6
    isplitr [H8]
    · rw [show (done d L tb ix t.val : sProp 𝕄) = iprop(oBlkPts (F := F) d (blk L (t.val - 1)) (gathered tb ix) ∗ done d L tb ix (t.val - 1)) by
        rw [← done_step, Nat.sub_add_cancel h0]]
      isplitl [H7]; · iexact H7
      iexact H3
    · iexact H8
  case hB4 =>
    intro h
    have h0 : ¬ 0 < t.val := fun h0 => h ((cond7_iff L t).mpr h0)
    rw [if_neg h0, show t.val - 1 = t.val by omega]
    iintro ⟨-, H1, H2, H3⟩
    isplitl [H1]; · iexact H1
    isplitl [H2]; · iexact H2
    iexact H3
  isplitl [Hob Hdone HO]
  · isplitr; · iexact Hmw
    isplitl [Hob]; · iexact Hob
    isplitl [Hdone]; · iexact Hdone
    iexact HO
  iintro ⟨Hofn, Hdone, HO⟩
  rw [wp_pure]; iapply fupd_intro
  isplitr; · ipureintro; rfl
  isplitl [Hinext]; · iexact Hinext
  isplitl [Hif]
  · rw [IFree_congr d (cV L) (jV L) ix qi (show (t.val + 1 + 1) % 2 = t.val % 2 by omega)]; iexact Hif
  isplitl [Hofn]; · iexact Hofn
  rw [if_pos (Nat.succ_pos _), Nat.add_sub_cancel]
  isplitl [Hobn]; · iexact Hobn
  isplitl [Hdone]; · iexact Hdone
  isplitl [Htodo]; · iexact Htodo
  isplitl [Ht]; · iexact Ht
  isplitl [Hg]; · iexact Hg
  iexact HO

end Cert.Proof.KernelIdeal

end
-- ==== Proof.KI.Task.lean ====
/-
  A tile's whole task: from its share of the table and of the row numbers and its eight blocks of the gathered rows, to
  those blocks written; and how the one call's operands are dealt to the tiles and come back.
-/
module

public import proofs.«01_k».proof.Proof.KI.Tile

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay ownCells ownRefs ownBufs ownSems0 mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords)
variable (tb : S65536x128.Idx → Elt F .f32) (ix : S1x65536.Idx → Elt F .i32) (o₀ : S65536x128.Idx → Elt F .f32)
variable (qt : PosShare TreeShare) (qi : PosShare TreeShare)

/-! ## A tile's buffers and semaphores -/

/-- A tile's semaphore cell. -/
abbrev cell (d : Dev nD) (c : Fin τ.nSC) (j : Fin τ.nSub) (s : DmaSem sig) : GSem nD τ sig := (V d c j, SemLoc.dma s)

theorem cell_ne {d : Dev nD} {c : Fin τ.nSC} {j : Fin τ.nSub} {s s' : DmaSem sig} (h : s ≠ s') : cell d c j s ≠ cell d c j s' :=
  fun e => h (SemLoc.dma.inj (Prod.mk.inj e).2)

theorem mem_cells {d : Dev nD} {c : Fin τ.nSC} {j : Fin τ.nSub} {s : DmaSem sig} (h : (SemLoc.dma s : SemLoc sig).isScoped .scVector = true) :
    cell d c j s ∈ ownCells (V d c j) := (mem_ownCells (g := cell d c j s)).mpr ⟨rfl, h⟩

/-- The tile's other cells. -/
def restCells (d : Dev nD) (c : Fin τ.nSC) (j : Fin τ.nSub) : Finset (GSem nD τ sig) :=
  (((((ownCells (V d c j)).erase (cell d c j (iSem 0))).erase (cell d c j (iSem 1))).erase (cell d c j (oSem 0))).erase (cell d c j (oSem 1))).erase
    (cell d c j gSem)

/-- The five semaphores of the gather are among the tile's own. -/
theorem ownSems0_V (c : Fin τ.nSC) (j : Fin τ.nSub) :
    (ownSems0 (V d c j) : sProp 𝕄)
      = iprop(semVal (cell d c j (iSem 0)) 0 ∗ semVal (cell d c j (iSem 1)) 0 ∗ semVal (cell d c j (oSem 0)) 0 ∗ semVal (cell d c j (oSem 1)) 0
          ∗ semVal (cell d c j gSem) 0 ∗ bigSep (restCells d c j) fun g => semVal g 0) := by
  unfold SparseCore.Cfg.ownSems0 restCells
  rw [SparseCore.bigSep_erase' (mem_cells (s := iSem 0) (by decide)),
    SparseCore.bigSep_erase' (Finset.mem_erase.mpr ⟨cell_ne (by decide), mem_cells (s := iSem 1) (by decide)⟩),
    SparseCore.bigSep_erase' (Finset.mem_erase.mpr ⟨cell_ne (by decide), Finset.mem_erase.mpr ⟨cell_ne (by decide), mem_cells (s := oSem 0) (by decide)⟩⟩),
    SparseCore.bigSep_erase' (Finset.mem_erase.mpr ⟨cell_ne (by decide), Finset.mem_erase.mpr ⟨cell_ne (by decide),
      Finset.mem_erase.mpr ⟨cell_ne (by decide), mem_cells (s := oSem 1) (by decide)⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), mem_cells (s := gSem) (by decide)⟩⟩⟩⟩)]

/-- The two buffers of the gather are among the tile's own. -/
theorem ownBufs_V (c : Fin τ.nSC) (j : Fin τ.nSub) :
    (ownBufs (V d c j) : sProp 𝕄)
      = iprop((∃ f, (V d c j).loc cc1_scoped0 ↦{fullShare} f) ∗ (∃ f, (V d c j).loc cc1_scoped2 ↦{fullShare} f)
          ∗ bigSep (((ownRefs (τ := τ) (.scVector c j)).erase ((Proc.scVector c j).devRef cc1_scoped0)).erase ((Proc.scVector c j).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector c j) (b := (Proc.scVector c j).devRef cc1_scoped2) rfl⟩)]

/-! ## The two slots of a buffer -/

theorem slots_split {ℓ : Loc nD τ sig} {A B : Finset (Idx ℓ)} (hd : Disjoint A B) (hu : A ∪ B = Finset.univ) (f : Buf (Elt F) ℓ) :
    (ℓ ↦{fullShare} f : sProp 𝕄) ⊢ iprop((ℓ ↦[A]{fullShare} f) ∗ (ℓ ↦[B]{fullShare} f)) := by
  rw [← hu]; exact (pointsTo_union hd).1
theorem slots_join {ℓ : Loc nD τ sig} {A B : Finset (Idx ℓ)} (hd : Disjoint A B) (hu : A ∪ B = Finset.univ) :
    iprop((∃ f, ℓ ↦[A]{fullShare} f) ∗ (∃ f, ℓ ↦[B]{fullShare} f)) ⊢ (iprop(∃ f, ℓ ↦{fullShare} f) : sProp 𝕄) := by
  iintro ⟨⟨%f, Ha⟩, ⟨%g, Hb⟩⟩
  ihave H := (pointsTo_join (f := f) (g := g) (q := fullShare) hd) $$ [Ha Hb]
  · isplitl [Ha] <;> iassumption
  rw [hu]
  iexists _; iexact H

theorem idx_slots_disjoint : Disjoint (idxSlot 0).view.set (idxSlot 1).view.set := by
  rw [set_idxSlot, set_idxSlot]
  exact Finset.disjoint_filter.mpr fun x _ h h' => by omega
theorem idx_slots_cover : (idxSlot 0).view.set ∪ (idxSlot 1).view.set = Finset.univ := by
  rw [set_idxSlot, set_idxSlot, ← Finset.filter_or, Finset.filter_true_of_mem]
  intro x _
  have : (x 0).val < 2 := (x 0).isLt
  omega
theorem out_slots_disjoint : Disjoint (outSlot 0).view.set (outSlot 1).view.set := by
  rw [set_outSlot, set_outSlot]
  exact Finset.disjoint_filter.mpr fun x _ h h' => by omega
theorem out_slots_cover : (outSlot 0).view.set ∪ (outSlot 1).view.set = Finset.univ := by
  rw [set_outSlot, set_outSlot, ← Finset.filter_or, Finset.filter_true_of_mem]
  intro x _
  have : (x 0).val < 2 := (x 0).isLt
  omega

/-! ## The task -/

set_option maxHeartbeats 4000000 in
/-- A tile's task. -/
theorem tile_body (hF : (K (F := F)).Facts) (hix : ∀ x, (ix x).toNat < 65536) (O : CellTallies nD τ sig (HIx 1)) (W : Waits sig (HIx 1)) (hO : ∀ g, O g none = 0) :
    iprop(levAts (K (F := F)).L (K (F := F)).lev ∗ emp
        ∗ ((tLoc d ↦[Finset.univ]{qt} tb) ∗ (iLoc d ↦[Finset.univ]{qi} ix) ∗ todo d L o₀ 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            sI (Memref.isWhole_whole _) cc1_scoped1 sO (Memref.isWhole_whole _) cc1_scoped3 cc1_scoped4)
          fun _ => iprop(((tLoc d ↦[Finset.univ]{qt} tb) ∗ (iLoc d ↦[Finset.univ]{qi} ix) ∗ done d L tb ix 8)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton, k1_part3_eq_skeleton, k1_part4_eq_skeleton]; unfold cc1_k_skel
  simp only [k1_part3_eq_skeleton, k1_part4_eq_skeleton]; unfold k1_part3_skel k1_part4_skel
  rw [(K (F := F)).scopedBufs_V hF d (cV L) (jV L), SparseCore.Cfg.scopedSems0_V (Val := Elt F) d (cV L) (jV L), ownSems0_V, ownBufs_V]
  simp only [wp_bind]
  iintro ⟨#Hlv, -, ⟨Ht, Hi, Htodo⟩, ⟨⟨%fs, Hs⟩, ⟨%fr, Hr⟩, Hbufs⟩, ⟨Hi0, Hi1, Ho0, Ho1, Hg, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hs' := (slots_split (ℓ := (V d (cV L) (jV L)).loc cc1_scoped0) (A := (idxSlot 0).view.set) (B := (idxSlot 1).view.set) idx_slots_disjoint idx_slots_cover fs) $$ Hs
  icases Hs' with ⟨Hs0, Hs1⟩
  ihave Hr' := (slots_split (ℓ := (V d (cV L) (jV L)).loc cc1_scoped2) (A := (outSlot 0).view.set) (B := (outSlot 1).view.set) out_slots_disjoint out_slots_cover fr) $$ Hr
  icases Hr' with ⟨Hr0, Hr1⟩
  ihave Hi' := (pointsTo_share (PosShare.mem_left_op_right qi)).1 $$ Hi
  icases Hi' with ⟨Hil, Hir⟩
  iapply (fetch_start d (cV L) (jV L) ix qi 0 (blk L 0) off1_eq (off2_eq L) off3_eq _ _ _)
  isplitl [Hs0 Hil Hi0]
  · unfold IFree
    isplitl [Hs0]; · iexists _; iexact Hs0
    isplitl [Hil]; · iexact Hil
    iexact Hi0
  iintro Hib
  rw [wp_pure]; iapply fupd_intro
  rw [show (Scalar.muli (Scalar.addi (Scalar.addi 0#32 (Scalar.muli (BitVec.ofNat 32 (L 1).val) 1#32)) (Scalar.muli (BitVec.ofNat 32 (L 0).val) 16#32)) 8#32) = wBase L from base_eq L]
  iapply (Scf.wp_for frame (wpE (defs₀ (F := F)) 𝒱₀ (V d (cV L) (jV L)) none) Set.univ _ _ _ k1_t1_ok _ _
    (fun k acc => iprop(Transfers.MayWaits (V d (cV L) (jV L)) (default : HIx 1) O ∗ ⌜acc = wAll k⌝ ∗ Inv d L tb ix o₀ qt qi O W k)) (fun t acc => by
    iintro ⟨#Hmw, %hacc, HI⟩
    subst hacc
    ihave H := (trip (F := F) d L tb ix o₀ qt qi (O := O) (W := W) hix t) $$ [HI]
    · isplitr; · iexact Hmw
      iexact HI
    ihave H := (wp_wand frame (wpE (defs₀ (F := F)) 𝒱₀ (V d (cV L) (jV L)) none) Set.univ) $$ H
    iapply H
    iintro %acc ⟨%hacc, HI⟩
    isplitr; · iexact Hmw
    isplitr; · ipureintro; exact hacc
    iexact HI))
  isplitl [Hib Htodo Ht Hi1 Ho0 Ho1 Hg HO Hs1 Hr0 Hr1 Hir]
  · isplitr; · iexact Hmw
    isplitr; · ipureintro; rfl
    unfold Inv
    rw [if_pos (by omega), if_neg (by omega)]
    isplitl [Hib]; · iexact Hib
    isplitl [Hs1 Hir Hi1]
    · unfold IFree
      isplitl [Hs1]; · iexists _; iexact Hs1
      isplitl [Hir]; · iexact Hir
      iexact Hi1
    isplitl [Hr0 Ho0]
    · unfold OFree
      isplitl [Hr0]; · iexists _; iexact Hr0
      iexact Ho0
    isplitl [Hr1 Ho1]
    · unfold OFree
      isplitl [Hr1]; · iexists _; iexact Hr1
      iexact Ho1
    isplitr
    · unfold done; rw [show Finset.range (0 - 1) = ∅ from rfl, bigSep_empty]; iempintro
    isplitl [Htodo]; · iexact Htodo
    isplitl [Ht]; · iexact Ht
    isplitl [Hg]; · iexact Hg
    unfold owesN
    iexists W
    isplitr; · ipureintro; exact fun p hp => .inl hp
    iexact HO
  rw [show Scf.trips k1_t1_loop.lb k1_t1_loop.ub k1_t1_loop.st = 8 from trips_eq]
  iintro %acc ⟨-, %hacc, HI⟩
  subst hacc
  unfold Inv
  rw [if_neg (by omega), if_pos (by omega)]
  icases HI with ⟨Hs0, Hs1, Hr0, Hr1, Hdone, -, Ht, Hg, HO⟩
  iapply (wp_assume 𝒱₀ (V d (cV L) (jV L)) none Set.univ (show k1_chk5 L (wAll 8).2.2.2.2 from chk5_ok L)); rw [wp_ret]; iapply fupd_intro
  iapply (wp_assume 𝒱₀ (V d (cV L) (jV L)) none Set.univ (show k1_chk4 (wAll 8).2.2.2.1 from chk4_ok)); rw [wp_ret]; iapply fupd_intro
  rw [wp_pure]; iapply fupd_intro
  iapply (copy_wait d (cV L) (jV L) tb ix (O := O) (W := W) 7 (blk L 7) off21_eq (off19_eq L) off20_eq _ _ _ _)
  isplitr; · iexact Hmw
  isplitl [Hr1]; · iexact Hr1
  isplitl [HO]; · iexact HO
  iintro ⟨Hr1, Hblk, HO⟩
  rw [wp_pure]; iapply fupd_intro
  unfold IFree OFree
  icases Hs0 with ⟨Hs0, Hil, Hi0⟩
  icases Hs1 with ⟨Hs1, Hir, Hi1⟩
  icases Hr0 with ⟨Hr0, Ho0⟩
  icases Hr1 with ⟨Hr1, Ho1⟩
  isplitl [Ht Hil Hir Hdone Hblk]
  · isplitl [Ht]; · iexact Ht
    isplitl [Hil Hir]
    · iapply (pointsTo_share (PosShare.mem_left_op_right qi)).2
      isplitl [Hil]; · iexact Hil
      iexact Hir
    rw [show (done d L tb ix 8 : sProp 𝕄) = iprop(oBlkPts (F := F) d (blk L 7) (gathered tb ix) ∗ done d L tb ix 7) by
      rw [← done_step]]
    isplitl [Hblk]; · iexact Hblk
    iexact Hdone
  isplitl [Hs0 Hs1 Hr0 Hr1 Hbufs]
  · isplitl [Hs0 Hs1]
    · iapply (slots_join (ℓ := (V d (cV L) (jV L)).loc cc1_scoped0) (A := (idxSlot 0).view.set) (B := (idxSlot 1).view.set) idx_slots_disjoint idx_slots_cover)
      isplitl [Hs0]; · iexact Hs0
      iexact Hs1
    isplitl [Hr0 Hr1]
    · iapply (slots_join (ℓ := (V d (cV L) (jV L)).loc cc1_scoped2) (A := (outSlot 0).view.set) (B := (outSlot 1).view.set) out_slots_disjoint out_slots_cover)
      isplitl [Hr0]; · iexact Hr0
      iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  unfold owesN
  iexact HO

end Cert.Proof.KernelIdeal

end
-- ==== Proof.KI.Call.lean ====
/-
  The one SparseCore call of the program: what each tile is handed and gives back, dealt from the whole table, the
  whole row of row numbers and the whole array of gathered rows.
-/
module

public import proofs.«01_k».proof.Proof.KI.Task

@[expose] public section

noncomputable section

namespace Cert.Proof.KernelIdeal

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (TB : Dev nD → S65536x128.Idx → Elt F .f32) (IX : Dev nD → S1x65536.Idx → Elt F .i32) (O0 : Dev nD → S65536x128.Idx → Elt F .f32)

/-- A SparseCore's share of the table and of the row numbers. -/
def qC (c : Fin 2) : PosShare TreeShare := Transfers.dealOf fullShare (Finset.univ : Finset (Fin 2)) c
/-- A tile's share. -/
def qT (c : Fin 2) (i : Fin 16) : PosShare TreeShare := Transfers.dealOf (qC c) (Finset.univ : Finset (Fin 16)) i

/-- What a tile is handed. -/
def goT (d : Dev nD) (c : Fin 2) (i : Fin 16) : sProp 𝕄 :=
  iprop((tLoc d ↦[Finset.univ]{qT c i} TB d) ∗ (iLoc d ↦[Finset.univ]{qT c i} IX d) ∗ todo d (coordsV c i) (O0 d) 0)
/-- What it gives back. -/
def tdT (d : Dev nD) (c : Fin 2) (i : Fin 16) : sProp 𝕄 :=
  iprop((tLoc d ↦[Finset.univ]{qT c i} TB d) ∗ (iLoc d ↦[Finset.univ]{qT c i} IX d) ∗ done d (coordsV c i) (TB d) (IX d) 8)
/-- What a SparseCore is handed. -/
def stT (d : Dev nD) (c : Fin 2) : sProp 𝕄 :=
  iprop((tLoc d ↦[Finset.univ]{qC c} TB d) ∗ (iLoc d ↦[Finset.univ]{qC c} IX d) ∗ bigSep Finset.univ fun i : Fin 16 => todo d (coordsV c i) (O0 d) 0)
/-- What it gives back. -/
def dnT (d : Dev nD) (c : Fin 2) : sProp 𝕄 :=
  iprop((tLoc d ↦[Finset.univ]{qC c} TB d) ∗ (iLoc d ↦[Finset.univ]{qC c} IX d) ∗ bigSep Finset.univ fun i : Fin 16 => done d (coordsV c i) (TB d) (IX d) 8)

instance todo_storable (d : Dev nD) (L : grid1.Coords) (o₀ : S65536x128.Idx → Elt F .f32) (k : ℕ) : BI.Storable (upEmb : UEmb _ 𝕄) (todo d L o₀ k) := by
  unfold todo; infer_instance
instance done_storable (d : Dev nD) (L : grid1.Coords) (tb : S65536x128.Idx → Elt F .f32) (ix : S1x65536.Idx → Elt F .i32) (k : ℕ) :
    BI.Storable (upEmb : UEmb _ 𝕄) (done d L tb ix k) := by
  unfold done; infer_instance
instance goT_storable (d : Dev nD) (c : Fin 2) (i : Fin 16) : BI.Storable (upEmb : UEmb _ 𝕄) (goT TB IX O0 d c i) := by unfold goT; infer_instance
instance tdT_storable (d : Dev nD) (c : Fin 2) (i : Fin 16) : BI.Storable (upEmb : UEmb _ 𝕄) (tdT TB IX d c i) := by unfold tdT; infer_instance
instance stT_storable (d : Dev nD) (c : Fin 2) : BI.Storable (upEmb : UEmb _ 𝕄) (stT TB IX O0 d c) := by
  have h : ∀ i : Fin 16, BI.Storable (upEmb : UEmb _ 𝕄) (todo d (coordsV c i) (O0 d) 0) := fun i => todo_storable d _ _ _
  unfold stT; infer_instance
instance dnT_storable (d : Dev nD) (c : Fin 2) : BI.Storable (upEmb : UEmb _ 𝕄) (dnT TB IX d c) := by
  have h : ∀ i : Fin 16, BI.Storable (upEmb : UEmb _ 𝕄) (done d (coordsV c i) (TB d) (IX d) 8) := fun i => done_storable d _ _ _ _
  unfold dnT; infer_instance

/-- What the call's handshakes carry. -/
def P : (K (F := F)).Pay (nD := nD) (Val := Elt F) (Name := ℕ) (U := UU) where
  st := fun q d c => match q with | 0 => stT TB IX O0 d (Fin.cast nCore_zero c)
  dn := fun q d c => match q with | 0 => dnT TB IX d (Fin.cast nCore_zero c)
  go := fun q d c i => match q with | 0 => goT TB IX O0 d (Fin.cast nCore_zero c) (Fin.cast nSub_zero i)
  td := fun q d c i => match q with | 0 => tdT TB IX d (Fin.cast nCore_zero c) (Fin.cast nSub_zero i)
  x := fun _ _ => iprop(emp)

instance P_storable : (P (F := F) TB IX O0).IsStorable where
  st q d c := match q with | 0 => (inferInstance : BI.Storable (upEmb : UEmb _ 𝕄) (stT TB IX O0 d (Fin.cast nCore_zero c)))
  dn q d c := match q with | 0 => (inferInstance : BI.Storable (upEmb : UEmb _ 𝕄) (dnT TB IX d (Fin.cast nCore_zero c)))
  go q d c i := match q with | 0 => (inferInstance : BI.Storable (upEmb : UEmb _ 𝕄) (goT TB IX O0 d (Fin.cast nCore_zero c) (Fin.cast nSub_zero i)))
  td q d c i := match q with | 0 => (inferInstance : BI.Storable (upEmb : UEmb _ 𝕄) (tdT TB IX d (Fin.cast nCore_zero c) (Fin.cast nSub_zero i)))

/-! ## The tiles' obligation -/

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _)
          sI (Memref.isWhole_whole _) cc1_scoped1 sO (Memref.isWhole_whole _) cc1_scoped3 cc1_scoped4) ⟨⟩ c s := rfl

theorem widen {thr : Thread nD τ} {A B C : sProp 𝕄} {O : CellTallies nD τ sig (HIx 1)} {W : Waits sig (HIx 1)} {R : Option (Fin 1) → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem tileObl (hF : (K (F := F)).Facts) (hix : ∀ d x, (IX d x).toNat < 65536) : (K (F := F)).TileObl (D (F := F)) 𝒱 (P TB IX O0) v₀ 0 := by
  intro d c i O W hO _ _
  simp only [show (P TB IX O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (TB d) (IX d) (O0 d) _ _ hF (hix d) O W hO).trans (wp_mono frame _ _ fun _ => widen)

/-! ## Dealing the operands to the tiles -/

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem cores_eq (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P TB IX O0) 0 := by
  intro d c
  show stT TB IX O0 d (Fin.cast nCore_zero c) ⊢ |={Set.univ}=> iprop(
      (bigSep Finset.univ fun i : Fin ((K (F := F)).nSub 0) => goT TB IX O0 d (Fin.cast nCore_zero c) (Fin.cast nSub_zero i))
      ∗ ((bigSep Finset.univ fun i : Fin ((K (F := F)).nSub 0) => tdT TB IX d (Fin.cast nCore_zero c) (Fin.cast nSub_zero i))
          -∗ dnT TB IX d (Fin.cast nCore_zero c)))
  rw [tasks_eq (F := F) (fun i => goT TB IX O0 d (Fin.cast nCore_zero c) i), tasks_eq (F := F) (fun i => tdT TB IX d (Fin.cast nCore_zero c) i)]
  unfold goT tdT stT dnT
  rw [bigSep_sep', bigSep_sep', bigSep_sep', bigSep_sep']
  unfold qT
  rw [← Transfers.pointsTo_deal (ℓ := tLoc d) (S := Finset.univ) (f := TB d) (Finset.univ : Finset (Fin 16)) Finset.univ_nonempty,
    ← Transfers.pointsTo_deal (ℓ := iLoc d) (S := Finset.univ) (f := IX d) (Finset.univ : Finset (Fin 16)) Finset.univ_nonempty]
  iintro H; imodintro
  isplitl [H]; · iexact H
  iintro H; iexact H

/-! ## The gathered rows, whole and by blocks -/

/-- The elements of a tile's `k`-th block. -/
def blkSet (t : (Fin 2 × Fin 16) × Fin 8) : Finset S65536x128.Idx := (outBlk (blk (coordsV t.1.1 t.1.2) t.2.val)).view.set

theorem blkNo_val (c : Fin 2) (i : Fin 16) (k : Fin 8) : blkNo (coordsV c i) k.val = 128 * c.val + 8 * i.val + k.val := by
  rw [blkNo_eq _ k.isLt]
  show 8 * (i.val + 16 * c.val) + k.val = _
  omega

theorem blkSet_disjoint : ∀ t ∈ (Finset.univ : Finset ((Fin 2 × Fin 16) × Fin 8)), ∀ t' ∈ (Finset.univ : Finset ((Fin 2 × Fin 16) × Fin 8)), t ≠ t' →
    Disjoint (blkSet t) (blkSet t') := by
  rintro ⟨⟨c, i⟩, k⟩ - ⟨⟨c', i'⟩, k'⟩ - hne
  unfold blkSet
  rw [set_outBlk, set_outBlk]
  refine Finset.disjoint_filter.mpr fun x _ h h' => hne ?_
  have e := h.symm.trans h'
  have e : blkNo (coordsV c i) k.val = blkNo (coordsV c' i') k'.val := e
  rw [blkNo_val, blkNo_val] at e
  have := c.isLt; have := c'.isLt; have := i.isLt; have := i'.isLt; have := k.isLt; have := k'.isLt
  have h1 : c = c' := Fin.ext (by omega)
  have h2 : i = i' := Fin.ext (by omega)
  have h3 : k = k' := Fin.ext (by omega)
  rw [h1, h2, h3]

theorem blkSet_cover : (Finset.univ : Finset ((Fin 2 × Fin 16) × Fin 8)).biUnion blkSet = Finset.univ := by
  refine Finset.eq_univ_of_forall fun x => Finset.mem_biUnion.mpr ?_
  have hx : (x 0).val < 65536 := (x 0).isLt
  refine ⟨((⟨(x 0).val / 256 / 128, by omega⟩, ⟨(x 0).val / 256 / 8 % 16, by omega⟩), ⟨(x 0).val / 256 % 8, by omega⟩), Finset.mem_univ _, ?_⟩
  unfold blkSet
  rw [set_outBlk]
  refine Finset.mem_filter.mpr ⟨Finset.mem_univ _, ?_⟩
  show (x 0).val / 256 = blkNo (coordsV _ _) _
  rw [blkNo_val ⟨(x 0).val / 256 / 128, by omega⟩ ⟨(x 0).val / 256 / 8 % 16, by omega⟩ ⟨(x 0).val / 256 % 8, by omega⟩]
  show (x 0).val / 256 = 128 * ((x 0).val / 256 / 128) + 8 * ((x 0).val / 256 / 8 % 16) + (x 0).val / 256 % 8
  omega

theorem range_eight (Φ : ℕ → sProp 𝕄) : bigSep (Finset.range 8) Φ = bigSep Finset.univ fun k : Fin 8 => Φ k.val := by
  rw [show Finset.range 8 = (Finset.univ : Finset (Fin 8)).map Fin.valEmbedding by decide, bigSep_map]
  rfl

/-- The array of gathered rows is the tiles' blocks. -/
theorem oLoc_blocks (d : Dev nD) (f : S65536x128.Idx → Elt F .f32) :
    (oLoc d ↦{fullShare} f : sProp 𝕄)
      = bigSep Finset.univ fun c : Fin 2 => bigSep Finset.univ fun i : Fin 16 => bigSep (Finset.range 8) fun k => oBlkPts (F := F) d (blk (coordsV c i) k) f := by
  have h := pointsTo_biUnion (ℓ := oLoc d) (q := fullShare) (f := f) (Ix := HIx 1) (Val := Elt F) (Name := ℕ) (U := UU) (Lvl := ℕ) Finset.univ blkSet blkSet_disjoint
  rw [blkSet_cover] at h
  refine h.trans ?_
  rw [bigSep_univ_prod, bigSep_univ_prod]
  refine bigSep_congr fun c _ => bigSep_congr fun i _ => ?_
  rw [range_eight]
  rfl

/-- The three arrays of the call, dealt to the SparseCores. -/
theorem call_split (d : Dev nD) :
    iprop((tLoc d ↦{fullShare} TB d) ∗ (iLoc d ↦{fullShare} IX d) ∗ (oLoc d ↦{fullShare} O0 d))
      ⊢ (bigSep Finset.univ fun c : Fin ((K (F := F)).nCore 0) => (P TB IX O0).st 0 d c : sProp 𝕄) := by
  show _ ⊢ bigSep Finset.univ fun c : Fin ((K (F := F)).nCore 0) => stT TB IX O0 d (Fin.cast nCore_zero c)
  rw [cores_eq (F := F) (fun c => stT TB IX O0 d c)]
  unfold stT
  rw [bigSep_sep', bigSep_sep']
  unfold qC todo
  rw [← Transfers.pointsTo_deal (ℓ := tLoc d) (S := Finset.univ) (f := TB d) (Finset.univ : Finset (Fin 2)) Finset.univ_nonempty,
    ← Transfers.pointsTo_deal (ℓ := iLoc d) (S := Finset.univ) (f := IX d) (Finset.univ : Finset (Fin 2)) Finset.univ_nonempty,
    oLoc_blocks d (O0 d), ← Finset.range_eq_Ico]

/-- What the SparseCores give back is the three arrays, the gathered rows written. -/
theorem call_join (d : Dev nD) :
    (bigSep Finset.univ fun c : Fin ((K (F := F)).nCore 0) => (P TB IX O0).dn 0 d c : sProp 𝕄)
      ⊢ iprop((tLoc d ↦{fullShare} TB d) ∗ (iLoc d ↦{fullShare} IX d) ∗ (oLoc d ↦{fullShare} gathered (TB d) (IX d))) := by
  show bigSep Finset.univ (fun c : Fin ((K (F := F)).nCore 0) => dnT TB IX d (Fin.cast nCore_zero c)) ⊢ _
  rw [cores_eq (F := F) (fun c => dnT TB IX d c)]
  unfold dnT
  rw [bigSep_sep', bigSep_sep']
  unfold qC done
  rw [← Transfers.pointsTo_deal (ℓ := tLoc d) (S := Finset.univ) (f := TB d) (Finset.univ : Finset (Fin 2)) Finset.univ_nonempty,
    ← Transfers.pointsTo_deal (ℓ := iLoc d) (S := Finset.univ) (f := IX d) (Finset.univ : Finset (Fin 2)) Finset.univ_nonempty,
    oLoc_blocks d (gathered (TB d) (IX d))]

end Cert.Proof.KernelIdeal

end
-- ==== Proof.KI.Region0.lean ====
/-
  The projection, a kernel on the TensorCore over sixteen points. At a point the body reads 8192 rows of the input, the
  cast weights and the offset, and leaves in its output block the two halves of the rows' logits side by side. Stated here:
  the body's run over its staging buffers, the region over the TensorCore's state (every unscoped buffer at a valuation,
  the debts of the SparseCore call beside), and the array it leaves, as one function of the arrays it reads.
-/
module

public import proofs.«01_k».proof.Proof.KI.Base
public import proofs.«01_k».proof.Proof.Whole
public import Idealize.ShloMosaic.Lib.Pipeline.RegionsLoop
public import Idealize.ShloMosaic.Lib.ValueLayout
public import proofs.«01_k».proof.Proof.Gen.KernelIdeal.Skeleton

@[expose] public section

noncomputable section

namespace Cert.Proof.KernelIdeal

open Cert.KernelIdeal Cert.KernelIdeal.Gen Cert.Proof.Whole
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The projection's body: from its three inputs and its output buffer held whole, it runs to its return, the inputs as
    they were and the output at the two halves of the logits side by side. -/
theorem project_run (c : Dev nD) (i : grid0.Coords) (M1 : Memref sig .tc .vmem S8192x256 .f32) (h1 : M1.IsWhole) (M2 : Memref sig .tc .vmem S256x64 .bf16) (h2 : M2.IsWhole)
    (M3 : Memref sig .tc .vmem S1x64 .f32) (h3 : M3.IsWhole) (M4 : Memref sig .tc .vmem S4096x128 .f32) (h4 : M4.IsWhole)
    (x : S8192x256.Idx → Elt F .f32) (w : S256x64.Idx → Elt F .bf16) (b : S1x64.Idx → Elt F .f32) (o : S4096x128.Idx → Elt F .f32)
    (E : Set ℕ) (Q : PUnit → sProp 𝕄) :
    iprop(owns (c : Thread nD τ) M1 fullShare x ∗ owns (c : Thread nD τ) M2 fullShare w ∗ owns (c : Thread nD τ) M3 fullShare b ∗ owns (c : Thread nD τ) M4 fullShare o
        ∗ ((owns (c : Thread nD τ) M1 fullShare x ∗ owns (c : Thread nD τ) M2 fullShare w ∗ owns (c : Thread nD τ) M3 fullShare b
            ∗ owns (c : Thread nD τ) M4 fullShare (k0_pay1 x w b)) -∗ Q ⟨⟩))
      ⊢ wp frame (wpE (defs₀ (F := F)) 𝒱₀ (c : Thread nD τ) none) E (cc0__project_body i M1 h1 M2 h2 M3 h3 M4 h4) Q := by
  rw [cc0__project_body_eq_skeleton]
  unfold cc0__project_body_skel
  iintro ⟨H1, H2, H3, H4, Hk⟩
  ihave K1 := (wp_load_owns (defs := defs₀ (F := F)) 𝒱₀ (c : Thread nD τ) none E) $$ H1
  iapply K1
  iintro H1
  ihave K2 := (wp_load_owns (defs := defs₀ (F := F)) 𝒱₀ (c : Thread nD τ) none E) $$ H2
  iapply K2
  iintro H2
  ihave K3 := (wp_load_owns (defs := defs₀ (F := F)) 𝒱₀ (c : Thread nD τ) none E) $$ H3
  iapply K3
  iintro H3
  ihave K4 := (wp_load_owns (defs := defs₀ (F := F)) 𝒱₀ (c : Thread nD τ) none E) $$ H4
  iapply K4
  iintro H4
  ihave K5 := (wp_store_owns (defs := defs₀ (F := F)) 𝒱₀ (c : Thread nD τ) none E (w := k0_pay1 x w b)) $$ H4
  iapply K5
  iintro H4
  rw [show ((Prog.ret PUnit.unit : Prog (TpuEff nD τ sig (Elt F) Λ₀ .tc) PUnit).bind fun _ => (Pure.pure PUnit.unit : Prog (TpuEff nD τ sig (Elt F) Λ₀ .tc) PUnit)) = Prog.ret PUnit.unit from rfl, wp_ret]
  iapply fupd_intro
  iapply Hk
  isplitl [H1]; · iexact H1
  isplitl [H2]; · iexact H2
  isplitl [H3]; · iexact H3
  iexact H4

/-! ## The proof data, at an entry valuation -/

variable (V : (c : Dev nD) → (b : Ref sig .tc) → Buf (Elt F) ((c : Thread nD τ).loc b))

/-- The levels at which the TensorCore before call `n` may have waited. -/
def seen (n : ℕ) (c : Dev nD) : Set (SemLoc sig × HIx 1) := {p | (K (F := F)).lev (T c, p.1) p.2 ≤ 8 * SparseCore.Cfg.Blocks.fst (Q := 1) (N := 1) n}

/-- The block of input rows at a point, as the fetch stages it, the weights and the offset. -/
abbrev xBlk (c : Dev nD) (t : Fin cfg0.N) : S8192x256.Idx → Elt F .f32 := ((cfg0.win 0).blk t).view.read (Elt F) (V c main_arg0)
abbrev wBlk (c : Dev nD) (t : Fin cfg0.N) : S256x64.Idx → Elt F .bf16 := ((cfg0.win 1).blk t).view.read (Elt F) (V c main_v1)
abbrev bBlk (c : Dev nD) (t : Fin cfg0.N) : S1x64.Idx → Elt F .f32 := ((cfg0.win 2).blk t).view.read (Elt F) (V c main_v2)

/-- The proof data of the projection from valuation `V`, before SparseCore call `n`: the arrays at `V`; after the body
    the inputs as fetched and the output at the logits of the rows fetched. -/
def dat0 (n : ℕ) (c : Dev nD) : Dat τ (Elt F) (HIx 1) ℕ UU ℕ cfg0 c where
  A w := V c (Pipeline.arrRef spec0 w)
  after w t := match w with
    | ⟨0, _⟩ => xBlk V c t
    | ⟨1, _⟩ => wBlk V c t
    | ⟨2, _⟩ => bBlk V c t
    | ⟨3, _⟩ => k0_pay1 (xBlk V c t) (wBlk V c t) (bBlk V c t)
  Φ _ := Pipeline.scopedRest (Ix := HIx 1) (Name := ℕ) (U := UU) (Lvl := ℕ) (Val := Elt F) spec0 c
  q _ := fullShare
  owed _ := (K (F := F)).Otc c n
  recorded _ := seen (F := F) n c

theorem before0_0 (n : ℕ) (c : Dev nD) (t : Fin cfg0.N) (d : (cfg0.win 0).block.Idx → Elt F (cfg0.win 0).elt) : (dat0 V n c).before 0 t d = xBlk V c t :=
  (dat0 V n c).before_in_eq_fetched 0 rfl (fun _ => rfl) (fun _ _ _ => rfl) (fun _ => rfl) t d
theorem before0_1 (n : ℕ) (c : Dev nD) (t : Fin cfg0.N) (d : (cfg0.win 1).block.Idx → Elt F (cfg0.win 1).elt) : (dat0 V n c).before 1 t d = wBlk V c t :=
  (dat0 V n c).before_in_eq_fetched 1 rfl (fun _ => rfl) (fun _ _ _ => rfl) (fun _ => rfl) t d
theorem before0_2 (n : ℕ) (c : Dev nD) (t : Fin cfg0.N) (d : (cfg0.win 2).block.Idx → Elt F (cfg0.win 2).elt) : (dat0 V n c).before 2 t d = bBlk V c t :=
  (dat0 V n c).before_in_eq_fetched 2 rfl (fun _ => rfl) (fun _ _ _ => rfl) (fun _ => rfl) t d

/-- At every point the body, run on its staging buffers, leaves what the proof data states. -/
theorem body0 (n : ℕ) (c : Dev nD) : BodyObligation (dat0 V n c) (defs₀ (F := F)) 𝒱₀ none Set.univ := fun t => by
  rw [bigSep_W0, bigSep_W0]
  rw [show (dat0 V n c).Φ t.succ = (dat0 V n c).Φ t.castSucc from rfl,
    show (dat0 V n c).owesAt none t.succ = (dat0 V n c).owesAt none t.castSucc from rfl]
  iintro ⟨HΦ, Howes, ⟨%d0, H0⟩, ⟨%d1, H1⟩, ⟨%d2, H2⟩, ⟨%d3, H3⟩⟩
  rw [before0_0, before0_1, before0_2]
  iapply (project_run c (grid0.coords t) ((cfg0.win 0).stage (cfg0.slots t 0)) (hstage0_0 ((cfg0.slots t 0).cast nbuf0_0))
    ((cfg0.win 1).stage (cfg0.slots t 1)) (hstage0_1 ((cfg0.slots t 1).cast nbuf0_1)) ((cfg0.win 2).stage (cfg0.slots t 2)) (hstage0_2 ((cfg0.slots t 2).cast nbuf0_2))
    ((cfg0.win 3).stage (cfg0.slots t 3)) (hstage0_3 ((cfg0.slots t 3).cast nbuf0_3)) (xBlk V c t) (wBlk V c t) (bBlk V c t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The region over the TensorCore's state -/

/-- Proof data for a pipeline a region does not run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)

/-- The proof data of both pipelines, for the projection's region. -/
def pdats0 (n : ℕ) : (p : Fin 2) → (c : Dev nD) → Dat τ (Elt F) (HIx 1) ℕ UU ℕ (Pipeline.pin (pcfgs (F := F)) adm p) c
  | ⟨0, _⟩ => fun c => dat0 V n c
  | ⟨1, _⟩ => fun c => junkDat c

/-- Before call `n` the TensorCore owes nothing at the index its own transfers wait at. -/
theorem Otc_none (c : Dev nD) (n : ℕ) (g : GSem nD τ sig) : (K (F := F)).Otc (N := 1) c n g none = 0 := by
  by_contra h
  have := SparseCore.Cfg.lev_of_Otc_pos (K := K (F := F)) (N := 1) (Nat.pos_of_ne_zero h)
  rw [SparseCore.Cfg.lev_none] at this
  omega

/-- The debts of the TensorCore before call `n`: what it owes the sequencers, its waits so far at levels below. -/
def debts (n : ℕ) (c : Dev nD) : sProp 𝕄 :=
  iprop(∃ W, ⌜(K (F := F)).WBelow (T c) W (8 * SparseCore.Cfg.Blocks.fst (Q := 1) (N := 1) n)⌝ ∗ owes (T c) ((K (F := F)).Otc c n) W)

variable (Vp : (c : Dev nD) → (b : Ref sig .tc) → Buf (Elt F) ((c : Thread nD τ).loc b))

set_option backward.isDefEq.respectTransparency.types false in
/-- The projection over the TensorCore's state: from every unscoped buffer at `V`, to the same with the projected table at
    what the pipeline's write-backs leave. -/
def reg0 (n : ℕ) (hVp_out : ∀ c, Vp c main_v3 = (dat0 V n c).arrAt 3 cfg0.N)
    (hVp_ne : ∀ c (b : Ref sig .tc), b ≠ main_v3 → Vp c b = V c b) :
    Pipeline.RegionSeg (pcfgs (F := F)) adm (pdats0 V adm n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V n c).loose
  hwaits c := Pipeline.cellsWaits_intro _ _ _ _ _ fun w s t => (K (F := F)).mayWait_none _ (fun g => Otc_none c n g)
  pre c := iprop(unscopedBufs c (V c) ∗ debts n c)
  post c := iprop(unscopedBufs c (Vp c) ∗ debts n c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats0 V adm n) launch0.win launch0.arr_whole c
      ((pdats0 V adm n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin debts
      icases HO with ⟨%W, %hW, HO⟩; iexists W; isplitr; · ipureintro; exact fun p hp => Or.inl (hW p hp)
      iexact HO
    isplitr; · iempintro
    iexact Hrest
  hin c := by
    rw [show (pdats0 V adm n 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats0 V adm n 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 V adm n) ((pdats0 V adm n 0 c).share_full fun _ => rfl) (V c) (Vp c) ((pdats0 V adm n 0 c).arrAt · cfg0.N)
      (fun w => by
        fin_cases w
        · exact ((pdats0 V adm n 0 c).arrAt_in 0 rfl _).trans (hVp_ne c main_arg0 (by decide)).symm
        · exact ((pdats0 V adm n 0 c).arrAt_in 1 rfl _).trans (hVp_ne c main_v1 (by decide)).symm
        · exact ((pdats0 V adm n 0 c).arrAt_in 2 rfl _).trans (hVp_ne c main_v2 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin debts
    icases HO with ⟨%W, %hW, HO⟩; iexists W; isplitr; swap; · iexact HO
    ipureintro
    intro p hp
    rcases hW hp with h | ⟨w, s, rfl⟩
    · exact h
    · exact Nat.zero_le _

/-! ## The table it leaves -/

theorem row_lt (r : Fin 65536) (k : Fin 8192) : 8192 * (r.val / 4096) + k.val < 131072 := by
  have := r.isLt; have := k.isLt; omega

/-- The projected table, from the inputs, the cast weights and the offset: row `r` holds the logits of input rows
    `8192 * (r / 4096) + r % 4096` and 4096 further. -/
def table (x : S131072x256.Idx → Elt F .f32) (w : S256x64.Idx → Elt F .bf16) (b : S1x64.Idx → Elt F .f32) : S65536x128.Idx → Elt F .f32 := fun i =>
  k0_pay1 (fun j => x (ix2 ⟨8192 * ((i 0).val / 4096) + (j 0).val, row_lt (i 0) (j 0)⟩ (j 1))) w b
    (ix2 ⟨(i 0).val % 4096, Nat.mod_lt _ (by decide)⟩ (i 1))

theorem coords0 (t : Fin cfg0.N) : ((cfg0.grid.coords t) 0).val = t.val := by
  have h := Pipeline.Grid.coords_val (G := grid0) t 0 (S := 1) (B := 16) (by decide) rfl
  have := t.isLt; have := N_0
  rw [show ((cfg0.grid.coords t) 0).val = ((grid0.coords t) 0).val from rfl, h]
  omega

theorem xBlk_eq (c : Dev nD) (t : Fin cfg0.N) (j : S8192x256.Idx) (i : S131072x256.Idx) (h0 : (i 0).val = 8192 * t.val + (j 0).val) (h1 : (i 1).val = (j 1).val) :
    xBlk V c t j = V c main_arg0 i := by
  show V c main_arg0 (((cfg0.win 0).rect t).emb j) = _
  congr 1
  funext a; apply Fin.ext
  rw [Pipeline.Window.rect_emb_val (cfg0.win 0) t j a]
  have hc := coords0 t
  have ht : t.val < 16 := N_0 ▸ t.isLt
  fin_cases a
  · show (BitVec.ofNat 32 ((grid0.coords t) 0).val).toNat * 8192 + (j 0).val = (i 0).val
    rw [show ((grid0.coords t) 0).val = t.val from hc, BitVec.toNat_ofNat, Nat.mod_eq_of_lt (by omega)]; omega
  · show (0#32).toNat * 256 + (j 1).val = (i 1).val
    rw [h1]; simp

theorem wBlk_eq (c : Dev nD) (t : Fin cfg0.N) : wBlk V c t = V c main_v1 := by
  funext j
  show V c main_v1 (((cfg0.win 1).rect t).emb j) = _
  congr 1
  funext a; apply Fin.ext
  rw [Pipeline.Window.rect_emb_val (cfg0.win 1) t j a]
  fin_cases a
  · show (0#32).toNat * 256 + (j 0).val = (j 0).val
    simp
  · show (0#32).toNat * 64 + (j 1).val = (j 1).val
    simp

theorem bBlk_eq (c : Dev nD) (t : Fin cfg0.N) : bBlk V c t = V c main_v2 := by
  funext j
  show V c main_v2 (((cfg0.win 2).rect t).emb j) = _
  congr 1
  funext a; apply Fin.ext
  rw [Pipeline.Window.rect_emb_val (cfg0.win 2) t j a]
  fin_cases a
  · show (0#32).toNat * 1 + (j 0).val = (j 0).val
    simp
  · show (0#32).toNat * 64 + (j 1).val = (j 1).val
    simp

theorem oBlk_emb (t : Fin cfg0.N) (y : S4096x128.Idx) :
    ((((cfg0.win 3).blk t).view.emb y : S65536x128.Idx) 0).val = 4096 * t.val + (y 0).val
      ∧ ((((cfg0.win 3).blk t).view.emb y : S65536x128.Idx) 1).val = (y 1).val := by
  have hc := coords0 t
  have ht : t.val < 16 := N_0 ▸ t.isLt
  constructor
  · show (((cfg0.win 3).rect t).emb y 0).val = _
    rw [Pipeline.Window.rect_emb_val (cfg0.win 3) t y 0]
    show (BitVec.ofNat 32 ((grid0.coords t) 0).val).toNat * 4096 + (y 0).val = _
    rw [show ((grid0.coords t) 0).val = t.val from hc, BitVec.toNat_ofNat, Nat.mod_eq_of_lt (by omega)]; omega
  · show (((cfg0.win 3).rect t).emb y 1).val = _
    rw [Pipeline.Window.rect_emb_val (cfg0.win 3) t y 1]
    show (0#32).toNat * 128 + (y 1).val = _
    simp

/-- Every row of the table is in some point's output block. -/
theorem oBlk_cover (i : S65536x128.Idx) : ∃ t : Fin cfg0.N, i ∈ ((cfg0.win 3).blk t).view.set := by
  have hi : (i 0).val < 65536 := (i 0).isLt
  have ht : (i 0).val / 4096 < cfg0.N := by show _ < grid0.N; rw [N_0]; omega
  refine ⟨⟨(i 0).val / 4096, ht⟩, ?_⟩
  have e := oBlk_emb ⟨(i 0).val / 4096, ht⟩ (ix2 ⟨(i 0).val % 4096, Nat.mod_lt _ (by decide)⟩ (i 1))
  have h := View.emb_mem_set ((cfg0.win 3).blk ⟨(i 0).val / 4096, ht⟩).view (ix2 ⟨(i 0).val % 4096, Nat.mod_lt _ (by decide)⟩ (i 1))
  have hi' : (((cfg0.win 3).blk ⟨(i 0).val / 4096, ht⟩).view.emb (ix2 ⟨(i 0).val % 4096, Nat.mod_lt _ (by decide)⟩ (i 1)) : S65536x128.Idx) = i := by
    funext a; apply Fin.ext
    fin_cases a
    · refine e.1.trans ?_
      show 4096 * ((i 0).val / 4096) + (i 0).val % 4096 = (i 0).val
      omega
    · exact e.2
  rw [hi'] at h
  exact h

/-- What the projection leaves in its array is the table. -/
theorem arrAt0 (n : ℕ) (c : Dev nD) : (dat0 V n c).arrAt 3 cfg0.N = table (V c main_arg0) (V c main_v1) (V c main_v2) := by
  refine (dat0 V n c).arrAt_eq_of_cover 3 (table (V c main_arg0) (V c main_v1) (V c main_v2)) (fun t _ => ?_) (fun i => ?_)
  · funext y
    obtain ⟨e0, e1⟩ := oBlk_emb t y
    show k0_pay1 (xBlk V c t) (wBlk V c t) (bBlk V c t) y = table (V c main_arg0) (V c main_v1) (V c main_v2) (((cfg0.win 3).blk t).view.emb y)
    generalize ((cfg0.win 3).blk t).view.emb y = i at e0 e1
    have hy : (y 0).val < 4096 := (y 0).isLt
    unfold table
    rw [wBlk_eq, bBlk_eq]
    have hx : xBlk V c t = fun j : S8192x256.Idx => V c main_arg0 (ix2 ⟨8192 * ((i 0).val / 4096) + (j 0).val, row_lt (i 0) (j 0)⟩ (j 1)) := by
      funext j
      refine xBlk_eq V c t j _ ?_ rfl
      show 8192 * ((i 0).val / 4096) + (j 0).val = _
      rw [e0]; omega
    rw [hx]
    congr 1
    rw [eq_ix2 y]
    congr 1
    · apply Fin.ext
      show (y 0).val = (i 0).val % 4096
      rw [e0]; omega
    · exact Fin.ext e1.symm
  · obtain ⟨t, ht⟩ := oBlk_cover i
    exact ⟨t, flush0_3 t, ht⟩

end Cert.Proof.KernelIdeal

end
-- ==== Proof.KI.Region2.lean ====
/-
  The head, a kernel on the TensorCore over eight points. At a point the body reads the gathered rows of 8192 samples, the
  flags of their halves, the actions' mask and the previous actions, and leaves the normalized logits (classes by samples),
  the log-probabilities of the previous actions and the entropies. Stated here: the body's run over its staging buffers,
  the region over the TensorCore's state, and the three arrays it leaves, as functions of the arrays it reads.
-/
module

public import proofs.«01_k».proof.Proof.KI.Region0
public import Idealize.ShloMosaic.Lib.Pipeline.RegionsLoop
public import Idealize.ShloMosaic.Lib.ValueLayout
public import proofs.«01_k».proof.Proof.Gen.KernelIdeal.Skeleton

@[expose] public section

noncomputable section

namespace Cert.Proof.KernelIdeal

open Cert.KernelIdeal Cert.KernelIdeal.Gen Cert.Proof.Whole
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The first part of the head's body: it leaves the normalized logits and the entropies, and hands on the former. -/
theorem head_run1 (c : Dev nD) (i : grid2.Coords) (M1 : Memref sig .tc .vmem S8192x128 .f32) (h1 : M1.IsWhole) (M2 : Memref sig .tc .vmem S64x8192 .i32) (h2 : M2.IsWhole)
    (M3 : Memref sig .tc .vmem S8192 .i32) (h3 : M3.IsWhole) (M4 : Memref sig .tc .vmem S8192 .i32) (h4 : M4.IsWhole)
    (M5 : Memref sig .tc .vmem S64x8192 .f32) (h5 : M5.IsWhole) (M6 : Memref sig .tc .vmem S8192 .f32) (h6 : M6.IsWhole) (M7 : Memref sig .tc .vmem S8192 .f32) (h7 : M7.IsWhole)
    (g : S8192x128.Idx → Elt F .f32) (m : S64x8192.Idx → Elt F .i32) (h : S8192.Idx → Elt F .i32)
    (o5 : S64x8192.Idx → Elt F .f32) (o7 : S8192.Idx → Elt F .f32)
    (E : Set ℕ) (Q : FVec F S64x8192 .f32 → sProp 𝕄) :
    iprop(owns (c : Thread nD τ) M1 fullShare g ∗ owns (c : Thread nD τ) M2 fullShare m ∗ owns (c : Thread nD τ) M4 fullShare h
        ∗ owns (c : Thread nD τ) M5 fullShare o5 ∗ owns (c : Thread nD τ) M7 fullShare o7
        ∗ ((owns (c : Thread nD τ) M1 fullShare g ∗ owns (c : Thread nD τ) M2 fullShare m ∗ owns (c : Thread nD τ) M4 fullShare h
            ∗ owns (c : Thread nD τ) M5 fullShare (k2_pay7 g h m) ∗ owns (c : Thread nD τ) M7 fullShare (k2_pay8 g h m)) -∗ Q (k2_pay7 g h m)))
      ⊢ wp frame (wpE (defs₀ (F := F)) 𝒱₀ (c : Thread nD τ) none) E (k2_part1 i M1 h1 M2 h2 M3 h3 M4 h4 M5 h5 M6 h6 M7 h7) Q := by
  rw [k2_part1_eq_skeleton]
  unfold k2_part1_skel
  iintro ⟨H1, H2, H4, H5, H7, Hk⟩
  ihave K1 := (wp_load_owns (defs := defs₀ (F := F)) 𝒱₀ (c : Thread nD τ) none E) $$ H1
  iapply K1
  iintro H1
  ihave K1 := (wp_load_owns (defs := defs₀ (F := F)) 𝒱₀ (c : Thread nD τ) none E) $$ H4
  iapply K1
  iintro H4
  ihave K1 := (wp_load_owns (defs := defs₀ (F := F)) 𝒱₀ (c : Thread nD τ) none E) $$ H2
  iapply K1
  iintro H2
  ihave K1 := (wp_load_owns (defs := defs₀ (F := F)) 𝒱₀ (c : Thread nD τ) none E) $$ H5
  iapply K1
  iintro H5
  ihave K1 := (wp_store_owns (defs := defs₀ (F := F)) 𝒱₀ (c : Thread nD τ) none E (w := k2_pay7 g h m)) $$ H5
  iapply K1
  iintro H5
  ihave K1 := (wp_load_owns (defs := defs₀ (F := F)) 𝒱₀ (c : Thread nD τ) none E) $$ H7
  iapply K1
  iintro H7
  ihave K1 := (wp_store_owns (defs := defs₀ (F := F)) 𝒱₀ (c : Thread nD τ) none E (w := k2_pay8 g h m)) $$ H7
  iapply K1
  iintro H7
  rw [show ((Prog.ret PUnit.unit : Prog (TpuEff nD τ sig (Elt F) Λ₀ .tc) PUnit).bind fun _ => (Pure.pure (k2_pay7 g h m) : Prog (TpuEff nD τ sig (Elt F) Λ₀ .tc) (FVec F S64x8192 .f32)))
    = Prog.ret (k2_pay7 g h m) from rfl, wp_ret]
  iapply fupd_intro
  iapply Hk
  isplitl [H1]; · iexact H1
  isplitl [H2]; · iexact H2
  isplitl [H4]; · iexact H4
  isplitl [H5]; · iexact H5
  iexact H7

/-- The head's body: from its four inputs and three outputs held whole, it runs to its return, the inputs as they were, the
    outputs at the normalized logits, the log-probabilities of the previous actions, the entropies. -/
theorem head_run (c : Dev nD) (i : grid2.Coords) (M1 : Memref sig .tc .vmem S8192x128 .f32) (h1 : M1.IsWhole) (M2 : Memref sig .tc .vmem S64x8192 .i32) (h2 : M2.IsWhole)
    (M3 : Memref sig .tc .vmem S8192 .i32) (h3 : M3.IsWhole) (M4 : Memref sig .tc .vmem S8192 .i32) (h4 : M4.IsWhole)
    (M5 : Memref sig .tc .vmem S64x8192 .f32) (h5 : M5.IsWhole) (M6 : Memref sig .tc .vmem S8192 .f32) (h6 : M6.IsWhole) (M7 : Memref sig .tc .vmem S8192 .f32) (h7 : M7.IsWhole)
    (g : S8192x128.Idx → Elt F .f32) (m : S64x8192.Idx → Elt F .i32) (a : S8192.Idx → Elt F .i32) (h : S8192.Idx → Elt F .i32)
    (o5 : S64x8192.Idx → Elt F .f32) (o6 : S8192.Idx → Elt F .f32) (o7 : S8192.Idx → Elt F .f32)
    (E : Set ℕ) (Q : PUnit → sProp 𝕄) :
    iprop(owns (c : Thread nD τ) M1 fullShare g ∗ owns (c : Thread nD τ) M2 fullShare m ∗ owns (c : Thread nD τ) M3 fullShare a ∗ owns (c : Thread nD τ) M4 fullShare h
        ∗ owns (c : Thread nD τ) M5 fullShare o5 ∗ owns (c : Thread nD τ) M6 fullShare o6 ∗ owns (c : Thread nD τ) M7 fullShare o7
        ∗ ((owns (c : Thread nD τ) M1 fullShare g ∗ owns (c : Thread nD τ) M2 fullShare m ∗ owns (c : Thread nD τ) M3 fullShare a ∗ owns (c : Thread nD τ) M4 fullShare h
            ∗ owns (c : Thread nD τ) M5 fullShare (k2_pay7 g h m) ∗ owns (c : Thread nD τ) M6 fullShare (k2_pay1 (k2_pay7 g h m) a)
            ∗ owns (c : Thread nD τ) M7 fullShare (k2_pay8 g h m)) -∗ Q ⟨⟩))
      ⊢ wp frame (wpE (defs₀ (F := F)) 𝒱₀ (c : Thread nD τ) none) E (cc2__head_body i M1 h1 M2 h2 M3 h3 M4 h4 M5 h5 M6 h6 M7 h7) Q := by
  rw [cc2__head_body_eq_skeleton]
  unfold cc2__head_body_skel
  rw [wp_bind]
  iintro ⟨H1, H2, H3, H4, H5, H6, H7, Hk⟩
  iapply (head_run1 c i M1 h1 M2 h2 M3 h3 M4 h4 M5 h5 M6 h6 M7 h7 g m h o5 o7 E _)
  isplitl [H1]; · iexact H1
  isplitl [H2]; · iexact H2
  isplitl [H4]; · iexact H4
  isplitl [H5]; · iexact H5
  isplitl [H7]; · iexact H7
  iintro ⟨H1, H2, H4, H5, H7⟩
  ihave K1 := (wp_load_owns (defs := defs₀ (F := F)) 𝒱₀ (c : Thread nD τ) none E) $$ H3
  iapply K1
  iintro H3
  ihave K1 := (wp_load_owns (defs := defs₀ (F := F)) 𝒱₀ (c : Thread nD τ) none E) $$ H6
  iapply K1
  iintro H6
  ihave K1 := (wp_store_owns (defs := defs₀ (F := F)) 𝒱₀ (c : Thread nD τ) none E (w := k2_pay1 (k2_pay7 g h m) a)) $$ H6
  iapply K1
  iintro H6
  rw [show ((Prog.ret PUnit.unit : Prog (TpuEff nD τ sig (Elt F) Λ₀ .tc) PUnit).bind fun _ => (Pure.pure PUnit.unit : Prog (TpuEff nD τ sig (Elt F) Λ₀ .tc) PUnit)) = Prog.ret PUnit.unit from rfl, wp_ret]
  iapply fupd_intro
  iapply Hk
  isplitl [H1]; · iexact H1
  isplitl [H2]; · iexact H2
  isplitl [H3]; · iexact H3
  isplitl [H4]; · iexact H4
  isplitl [H5]; · iexact H5
  isplitl [H6]; · iexact H6
  iexact H7

/-! ## The proof data, at an entry valuation -/

variable (V : (c : Dev nD) → (b : Ref sig .tc) → Buf (Elt F) ((c : Thread nD τ).loc b))

/-- The blocks at a point, as the fetches stage them: gathered rows, mask, previous actions, halves' flags. -/
abbrev gBlk (c : Dev nD) (t : Fin cfg2.N) : S8192x128.Idx → Elt F .f32 := ((cfg2.win 0).blk t).view.read (Elt F) (V c main_v12)
abbrev mBlk (c : Dev nD) (t : Fin cfg2.N) : S64x8192.Idx → Elt F .i32 := ((cfg2.win 1).blk t).view.read (Elt F) (V c main_v13)
abbrev aBlk (c : Dev nD) (t : Fin cfg2.N) : S8192.Idx → Elt F .i32 := ((cfg2.win 2).blk t).view.read (Elt F) (V c main_arg3)
abbrev hBlk (c : Dev nD) (t : Fin cfg2.N) : S8192.Idx → Elt F .i32 := ((cfg2.win 3).blk t).view.read (Elt F) (V c main_v10)

/-- The proof data of the head from valuation `V`, before SparseCore call `n`. -/
def dat2 (n : ℕ) (c : Dev nD) : Dat τ (Elt F) (HIx 1) ℕ UU ℕ cfg2 c where
  A w := V c (Pipeline.arrRef spec2 w)
  after w t := match w with
    | ⟨0, _⟩ => gBlk V c t
    | ⟨1, _⟩ => mBlk V c t
    | ⟨2, _⟩ => aBlk V c t
    | ⟨3, _⟩ => hBlk V c t
    | ⟨4, _⟩ => k2_pay7 (gBlk V c t) (hBlk V c t) (mBlk V c t)
    | ⟨5, _⟩ => k2_pay1 (k2_pay7 (gBlk V c t) (hBlk V c t) (mBlk V c t)) (aBlk V c t)
    | ⟨6, _⟩ => k2_pay8 (gBlk V c t) (hBlk V c t) (mBlk V c t)
  Φ _ := Pipeline.scopedRest (Ix := HIx 1) (Name := ℕ) (U := UU) (Lvl := ℕ) (Val := Elt F) spec2 c
  q _ := fullShare
  owed _ := (K (F := F)).Otc c n
  recorded _ := seen (F := F) n c

theorem before2_0 (n : ℕ) (c : Dev nD) (t : Fin cfg2.N) (d : (cfg2.win 0).block.Idx → Elt F (cfg2.win 0).elt) : (dat2 V n c).before 0 t d = gBlk V c t :=
  (dat2 V n c).before_in_eq_fetched 0 rfl (fun _ => rfl) (fun _ _ _ => rfl) (fun _ => rfl) t d
theorem before2_1 (n : ℕ) (c : Dev nD) (t : Fin cfg2.N) (d : (cfg2.win 1).block.Idx → Elt F (cfg2.win 1).elt) : (dat2 V n c).before 1 t d = mBlk V c t :=
  (dat2 V n c).before_in_eq_fetched 1 rfl (fun _ => rfl) (fun _ _ _ => rfl) (fun _ => rfl) t d
theorem before2_2 (n : ℕ) (c : Dev nD) (t : Fin cfg2.N) (d : (cfg2.win 2).block.Idx → Elt F (cfg2.win 2).elt) : (dat2 V n c).before 2 t d = aBlk V c t :=
  (dat2 V n c).before_in_eq_fetched 2 rfl (fun _ => rfl) (fun _ _ _ => rfl) (fun _ => rfl) t d
theorem before2_3 (n : ℕ) (c : Dev nD) (t : Fin cfg2.N) (d : (cfg2.win 3).block.Idx → Elt F (cfg2.win 3).elt) : (dat2 V n c).before 3 t d = hBlk V c t :=
  (dat2 V n c).before_in_eq_fetched 3 rfl (fun _ => rfl) (fun _ _ _ => rfl) (fun _ => rfl) t d

/-- At every point the body, run on its staging buffers, leaves what the proof data states. -/
theorem body2 (n : ℕ) (c : Dev nD) : BodyObligation (dat2 V n c) (defs₀ (F := F)) 𝒱₀ none Set.univ := fun t => by
  rw [bigSep_W2, bigSep_W2]
  rw [show (dat2 V n c).Φ t.succ = (dat2 V n c).Φ t.castSucc from rfl,
    show (dat2 V n c).owesAt none t.succ = (dat2 V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before2_0, before2_1, before2_2, before2_3]
  iapply (head_run c (grid2.coords t) ((cfg2.win 0).stage (cfg2.slots t 0)) (hstage2_0 ((cfg2.slots t 0).cast nbuf2_0))
    ((cfg2.win 1).stage (cfg2.slots t 1)) (hstage2_1 ((cfg2.slots t 1).cast nbuf2_1)) ((cfg2.win 2).stage (cfg2.slots t 2)) (hstage2_2 ((cfg2.slots t 2).cast nbuf2_2))
    ((cfg2.win 3).stage (cfg2.slots t 3)) (hstage2_3 ((cfg2.slots t 3).cast nbuf2_3)) ((cfg2.win 4).stage (cfg2.slots t 4)) (hstage2_4 ((cfg2.slots t 4).cast nbuf2_4))
    ((cfg2.win 5).stage (cfg2.slots t 5)) (hstage2_5 ((cfg2.slots t 5).cast nbuf2_5)) ((cfg2.win 6).stage (cfg2.slots t 6)) (hstage2_6 ((cfg2.slots t 6).cast nbuf2_6))
    (gBlk V c t) (mBlk V c t) (aBlk V c t) (hBlk V c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The region over the TensorCore's state -/

variable (adm : (p : Fin 2) → (pcfgs (F := F) p).Adm)

/-- The proof data of both pipelines, for the head's region. -/
def pdats2 (n : ℕ) : (p : Fin 2) → (c : Dev nD) → Dat τ (Elt F) (HIx 1) ℕ UU ℕ (Pipeline.pin (pcfgs (F := F)) adm p) c
  | ⟨0, _⟩ => fun c => junkDat c
  | ⟨1, _⟩ => fun c => dat2 V n c

variable (Vp : (c : Dev nD) → (b : Ref sig .tc) → Buf (Elt F) ((c : Thread nD τ).loc b))

set_option backward.isDefEq.respectTransparency.types false in
/-- The head over the TensorCore's state: from every unscoped buffer at `V`, to the same with the three outputs at what
    the pipeline's write-backs leave. -/
def reg2 (n : ℕ) (hVp_0 : ∀ c, Vp c main_v14_0 = (dat2 V n c).arrAt 4 cfg2.N)
    (hVp_1 : ∀ c, Vp c main_v14_1 = (dat2 V n c).arrAt 5 cfg2.N) (hVp_2 : ∀ c, Vp c main_v14_2 = (dat2 V n c).arrAt 6 cfg2.N)
    (hVp_ne : ∀ c (b : Ref sig .tc), b ≠ main_v14_0 → b ≠ main_v14_1 → b ≠ main_v14_2 → Vp c b = V c b) :
    Pipeline.RegionSeg (pcfgs (F := F)) adm (pdats2 V adm n) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V n c).loose
  hwaits c := Pipeline.cellsWaits_intro _ _ _ _ _ fun w s t => (K (F := F)).mayWait_none _ (fun g => Otc_none c n g)
  pre c := iprop(unscopedBufs c (V c) ∗ debts n c)
  post c := iprop(unscopedBufs c (Vp c) ∗ debts n c)
  X _ := BI.emp
  Y _ := BI.emp
  Z c := iprop(Pipeline.unscopedRest (Ix := HIx 1) (Name := ℕ) (U := UU) (Lvl := ℕ) spec2 c (V c))
  hentry c := by
    rw [Pipeline.ownSems0_none]
    have hsplit := Pipeline.arrays_of_unscopedBufs (p := 1) (pcfgs (F := F)) adm (pdats2 V adm n) launch2.win launch2.arr_whole c
      ((pdats2 V adm n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin debts
      icases HO with ⟨%W, %hW, HO⟩; iexists W; isplitr; · ipureintro; exact fun p hp => Or.inl (hW p hp)
      iexact HO
    isplitr; · iempintro
    iexact Hrest
  hin c := by
    rw [show (pdats2 V adm n 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats2 V adm n 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V adm n) ((pdats2 V adm n 1 c).share_full fun _ => rfl) (V c) (Vp c) ((pdats2 V adm n 1 c).arrAt · cfg2.N)
      (fun w => by
        fin_cases w
        · exact ((pdats2 V adm n 1 c).arrAt_in 0 rfl _).trans (hVp_ne c main_v12 (by decide) (by decide) (by decide)).symm
        · exact ((pdats2 V adm n 1 c).arrAt_in 1 rfl _).trans (hVp_ne c main_v13 (by decide) (by decide) (by decide)).symm
        · exact ((pdats2 V adm n 1 c).arrAt_in 2 rfl _).trans (hVp_ne c main_arg3 (by decide) (by decide) (by decide)).symm
        · exact ((pdats2 V adm n 1 c).arrAt_in 3 rfl _).trans (hVp_ne c main_v10 (by decide) (by decide) (by decide)).symm
        · exact (hVp_0 c).symm
        · exact (hVp_1 c).symm
        · exact (hVp_2 c).symm)
      (fun b hb => hVp_ne c b (fun h => hb (h ▸ Finset.mem_image.mpr ⟨4, Finset.mem_univ _, rfl⟩))
        (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin debts
    icases HO with ⟨%W, %hW, HO⟩; iexists W; isplitr; swap; · iexact HO
    ipureintro
    intro p hp
    rcases hW hp with h | ⟨w, s, rfl⟩
    · exact h
    · exact Nat.zero_le _

/-! ## The arrays it leaves -/

/-- Sample `k` of block `T`. -/
def smp (T : ℕ) (hT : T < 8) (k : Fin 8192) : Fin 65536 := ⟨8192 * T + k.val, by have := k.isLt; omega⟩

/-- The block of a sample. -/
theorem blk_lt (s : Fin 65536) : s.val / 8192 < 8 := by have := s.isLt; omega

/-- The block of gathered rows, of the mask, of a vector over the samples, that sample `s` lies in. -/
def rowsAt (g : S65536x128.Idx → Elt F .f32) (s : Fin 65536) : S8192x128.Idx → Elt F .f32 := fun j => g (ix2 (smp (s.val / 8192) (blk_lt s) (j 0)) (j 1))
def colsAt (m : S64x65536.Idx → Elt F .i32) (s : Fin 65536) : S64x8192.Idx → Elt F .i32 := fun j => m (ix2 (j 0) (smp (s.val / 8192) (blk_lt s) (j 1)))
def vecAt (a : S65536.Idx → Elt F .i32) (s : Fin 65536) : S8192.Idx → Elt F .i32 := fun j => a (ix1 (smp (s.val / 8192) (blk_lt s) (j 0)))
/-- A sample's place in its block. -/
def pos (s : Fin 65536) : Fin 8192 := ⟨s.val % 8192, Nat.mod_lt _ (by decide)⟩

/-- The normalized logits, classes by samples. -/
def normT (g : S65536x128.Idx → Elt F .f32) (h : S65536.Idx → Elt F .i32) (m : S64x65536.Idx → Elt F .i32) : S64x65536.Idx → Elt F .f32 := fun i =>
  k2_pay7 (rowsAt g (i 1)) (vecAt h (i 1)) (colsAt m (i 1)) (ix2 (i 0) (pos (i 1)))
/-- The log-probabilities of the previous actions. -/
def logp (g : S65536x128.Idx → Elt F .f32) (h : S65536.Idx → Elt F .i32) (m : S64x65536.Idx → Elt F .i32) (a : S65536.Idx → Elt F .i32) : S65536.Idx → Elt F .f32 := fun i =>
  k2_pay1 (k2_pay7 (rowsAt g (i 0)) (vecAt h (i 0)) (colsAt m (i 0))) (vecAt a (i 0)) (ix1 (pos (i 0)))
/-- The entropies. -/
def entr (g : S65536x128.Idx → Elt F .f32) (h : S65536.Idx → Elt F .i32) (m : S64x65536.Idx → Elt F .i32) : S65536.Idx → Elt F .f32 := fun i =>
  k2_pay8 (rowsAt g (i 0)) (vecAt h (i 0)) (colsAt m (i 0)) (ix1 (pos (i 0)))

theorem lt2 (t : Fin cfg2.N) : t.val < 8 := N_2 ▸ t.isLt

theorem coords2 (t : Fin cfg2.N) : (BitVec.ofNat 32 ((grid2.coords t) 0).val).toNat = t.val := by
  have h := Pipeline.Grid.coords_val (G := grid2) t 0 (S := 1) (B := 8) (by decide) rfl
  have := lt2 t
  rw [h, BitVec.toNat_ofNat, Nat.div_one, Nat.mod_eq_of_lt (by omega : t.val < 8), Nat.mod_eq_of_lt (by omega)]

theorem gBlk_eq (c : Dev nD) (t : Fin cfg2.N) (s : Fin 65536) (hs : s.val / 8192 = t.val) : gBlk V c t = rowsAt (V c main_v12) s := by
  funext j
  show V c main_v12 (((cfg2.win 0).rect t).emb j) = V c main_v12 _
  congr 1
  funext a; apply Fin.ext
  rw [Pipeline.Window.rect_emb_val (cfg2.win 0) t j a]
  fin_cases a
  · show (BitVec.ofNat 32 ((grid2.coords t) 0).val).toNat * 8192 + (j 0).val = 8192 * (s.val / 8192) + (j 0).val
    rw [coords2, hs]; omega
  · show (0#32).toNat * 128 + (j 1).val = (j 1).val
    simp

theorem mBlk_eq (c : Dev nD) (t : Fin cfg2.N) (s : Fin 65536) (hs : s.val / 8192 = t.val) : mBlk V c t = colsAt (V c main_v13) s := by
  funext j
  show V c main_v13 (((cfg2.win 1).rect t).emb j) = V c main_v13 _
  congr 1
  funext a; apply Fin.ext
  rw [Pipeline.Window.rect_emb_val (cfg2.win 1) t j a]
  fin_cases a
  · show (0#32).toNat * 64 + (j 0).val = (j 0).val
    simp
  · show (BitVec.ofNat 32 ((grid2.coords t) 0).val).toNat * 8192 + (j 1).val = 8192 * (s.val / 8192) + (j 1).val
    rw [coords2, hs]; omega

theorem aBlk_eq (c : Dev nD) (t : Fin cfg2.N) (s : Fin 65536) (hs : s.val / 8192 = t.val) : aBlk V c t = vecAt (V c main_arg3) s := by
  funext j
  show V c main_arg3 (((cfg2.win 2).rect t).emb j) = V c main_arg3 _
  congr 1
  funext a; apply Fin.ext
  rw [Pipeline.Window.rect_emb_val (cfg2.win 2) t j a]
  fin_cases a
  show (BitVec.ofNat 32 ((grid2.coords t) 0).val).toNat * 8192 + (j 0).val = 8192 * (s.val / 8192) + (j 0).val
  rw [coords2, hs]; omega

theorem hBlk_eq (c : Dev nD) (t : Fin cfg2.N) (s : Fin 65536) (hs : s.val / 8192 = t.val) : hBlk V c t = vecAt (V c main_v10) s := by
  funext j
  show V c main_v10 (((cfg2.win 3).rect t).emb j) = V c main_v10 _
  congr 1
  funext a; apply Fin.ext
  rw [Pipeline.Window.rect_emb_val (cfg2.win 3) t j a]
  fin_cases a
  show (BitVec.ofNat 32 ((grid2.coords t) 0).val).toNat * 8192 + (j 0).val = 8192 * (s.val / 8192) + (j 0).val
  rw [coords2, hs]; omega

theorem emb2_4 (t : Fin cfg2.N) (y : S64x8192.Idx) :
    ((((cfg2.win 4).blk t).view.emb y : S64x65536.Idx) 0).val = (y 0).val
      ∧ ((((cfg2.win 4).blk t).view.emb y : S64x65536.Idx) 1).val = 8192 * t.val + (y 1).val := by
  constructor
  · show (((cfg2.win 4).rect t).emb y 0).val = _
    rw [Pipeline.Window.rect_emb_val (cfg2.win 4) t y 0]
    show (0#32).toNat * 64 + (y 0).val = _
    simp
  · show (((cfg2.win 4).rect t).emb y 1).val = _
    rw [Pipeline.Window.rect_emb_val (cfg2.win 4) t y 1]
    show (BitVec.ofNat 32 ((grid2.coords t) 0).val).toNat * 8192 + (y 1).val = _
    rw [coords2]; omega

theorem cover2_4 (i : S64x65536.Idx) : ∃ t : Fin cfg2.N, i ∈ ((cfg2.win 4).blk t).view.set := by
  have ht : (i 1).val / 8192 < cfg2.N := by show _ < grid2.N; rw [N_2]; exact blk_lt (i 1)
  refine ⟨⟨(i 1).val / 8192, ht⟩, ?_⟩
  have e := emb2_4 ⟨(i 1).val / 8192, ht⟩ (ix2 (i 0) (pos (i 1)))
  have h := View.emb_mem_set ((cfg2.win 4).blk ⟨(i 1).val / 8192, ht⟩).view (ix2 (i 0) (pos (i 1)))
  have hi' : (((cfg2.win 4).blk ⟨(i 1).val / 8192, ht⟩).view.emb (ix2 (i 0) (pos (i 1))) : S64x65536.Idx) = i := by
    funext a; apply Fin.ext
    fin_cases a
    · exact e.1
    · refine e.2.trans ?_
      show 8192 * ((i 1).val / 8192) + (i 1).val % 8192 = (i 1).val
      omega
  rw [hi'] at h
  exact h

theorem emb2_5 (t : Fin cfg2.N) (y : S8192.Idx) :
    ((((cfg2.win 5).blk t).view.emb y : S65536.Idx) 0).val = 8192 * t.val + (y 0).val := by
  show (((cfg2.win 5).rect t).emb y 0).val = _
  rw [Pipeline.Window.rect_emb_val (cfg2.win 5) t y 0]
  show (BitVec.ofNat 32 ((grid2.coords t) 0).val).toNat * 8192 + (y 0).val = _
  rw [coords2]; omega

theorem cover2_5 (i : S65536.Idx) : ∃ t : Fin cfg2.N, i ∈ ((cfg2.win 5).blk t).view.set := by
  have ht : (i 0).val / 8192 < cfg2.N := by show _ < grid2.N; rw [N_2]; exact blk_lt (i 0)
  refine ⟨⟨(i 0).val / 8192, ht⟩, ?_⟩
  have e := emb2_5 ⟨(i 0).val / 8192, ht⟩ (ix1 (pos (i 0)))
  have h := View.emb_mem_set ((cfg2.win 5).blk ⟨(i 0).val / 8192, ht⟩).view (ix1 (pos (i 0)))
  have hi' : (((cfg2.win 5).blk ⟨(i 0).val / 8192, ht⟩).view.emb (ix1 (pos (i 0))) : S65536.Idx) = i := by
    funext a; apply Fin.ext
    fin_cases a
    refine e.trans ?_
    show 8192 * ((i 0).val / 8192) + (i 0).val % 8192 = (i 0).val
    omega
  rw [hi'] at h
  exact h

theorem emb2_6 (t : Fin cfg2.N) (y : S8192.Idx) :
    ((((cfg2.win 6).blk t).view.emb y : S65536.Idx) 0).val = 8192 * t.val + (y 0).val := by
  show (((cfg2.win 6).rect t).emb y 0).val = _
  rw [Pipeline.Window.rect_emb_val (cfg2.win 6) t y 0]
  show (BitVec.ofNat 32 ((grid2.coords t) 0).val).toNat * 8192 + (y 0).val = _
  rw [coords2]; omega

theorem cover2_6 (i : S65536.Idx) : ∃ t : Fin cfg2.N, i ∈ ((cfg2.win 6).blk t).view.set := by
  have ht : (i 0).val / 8192 < cfg2.N := by show _ < grid2.N; rw [N_2]; exact blk_lt (i 0)
  refine ⟨⟨(i 0).val / 8192, ht⟩, ?_⟩
  have e := emb2_6 ⟨(i 0).val / 8192, ht⟩ (ix1 (pos (i 0)))
  have h := View.emb_mem_set ((cfg2.win 6).blk ⟨(i 0).val / 8192, ht⟩).view (ix1 (pos (i 0)))
  have hi' : (((cfg2.win 6).blk ⟨(i 0).val / 8192, ht⟩).view.emb (ix1 (pos (i 0))) : S65536.Idx) = i := by
    funext a; apply Fin.ext
    fin_cases a
    refine e.trans ?_
    show 8192 * ((i 0).val / 8192) + (i 0).val % 8192 = (i 0).val
    omega
  rw [hi'] at h
  exact h

/-- What the head leaves in its output 0. -/
theorem arrAt2_4 (n : ℕ) (c : Dev nD) : (dat2 V n c).arrAt 4 cfg2.N = normT (V c main_v12) (V c main_v10) (V c main_v13) := by
  refine (dat2 V n c).arrAt_eq_of_cover 4 (normT (V c main_v12) (V c main_v10) (V c main_v13)) (fun t _ => ?_) (fun i => ?_)
  · funext y
    have e := emb2_4 t y
    show k2_pay7 (gBlk V c t) (hBlk V c t) (mBlk V c t) y = normT (V c main_v12) (V c main_v10) (V c main_v13) (((cfg2.win 4).blk t).view.emb y)
    generalize ((cfg2.win 4).blk t).view.emb y = i at e
    have e1 : (i 1).val = 8192 * t.val + (y 1).val := e.2
    have hy : (y 1).val < 8192 := (y 1).isLt
    have hs : (i 1).val / 8192 = t.val := by rw [e1]; omega
    unfold normT
    rw [gBlk_eq V c t (i 1) hs, hBlk_eq V c t (i 1) hs, mBlk_eq V c t (i 1) hs]
    congr 1
    rw [eq_ix2 y]
    congr 1
    · exact Fin.ext e.1.symm
    · apply Fin.ext
      show (y 1).val = (i 1).val % 8192
      rw [e1]; omega
  · obtain ⟨t, ht⟩ := cover2_4 i
    exact ⟨t, flush2_4 t, ht⟩

/-- What the head leaves in its output 1. -/
theorem arrAt2_5 (n : ℕ) (c : Dev nD) : (dat2 V n c).arrAt 5 cfg2.N = logp (V c main_v12) (V c main_v10) (V c main_v13) (V c main_arg3) := by
  refine (dat2 V n c).arrAt_eq_of_cover 5 (logp (V c main_v12) (V c main_v10) (V c main_v13) (V c main_arg3)) (fun t _ => ?_) (fun i => ?_)
  · funext y
    have e := emb2_5 t y
    show k2_pay1 (k2_pay7 (gBlk V c t) (hBlk V c t) (mBlk V c t)) (aBlk V c t) y = logp (V c main_v12) (V c main_v10) (V c main_v13) (V c main_arg3) (((cfg2.win 5).blk t).view.emb y)
    generalize ((cfg2.win 5).blk t).view.emb y = i at e
    have e1 : (i 0).val = 8192 * t.val + (y 0).val := e
    have hy : (y 0).val < 8192 := (y 0).isLt
    have hs : (i 0).val / 8192 = t.val := by rw [e1]; omega
    unfold logp
    rw [gBlk_eq V c t (i 0) hs, hBlk_eq V c t (i 0) hs, mBlk_eq V c t (i 0) hs, aBlk_eq V c t (i 0) hs]
    congr 1
    rw [eq_ix1 y]
    congr 1
    apply Fin.ext
    show (y 0).val = (i 0).val % 8192
    rw [e1]; omega
  · obtain ⟨t, ht⟩ := cover2_5 i
    exact ⟨t, flush2_5 t, ht⟩

/-- What the head leaves in its output 2. -/
theorem arrAt2_6 (n : ℕ) (c : Dev nD) : (dat2 V n c).arrAt 6 cfg2.N = entr (V c main_v12) (V c main_v10) (V c main_v13) := by
  refine (dat2 V n c).arrAt_eq_of_cover 6 (entr (V c main_v12) (V c main_v10) (V c main_v13)) (fun t _ => ?_) (fun i => ?_)
  · funext y
    have e := emb2_6 t y
    show k2_pay8 (gBlk V c t) (hBlk V c t) (mBlk V c t) y = entr (V c main_v12) (V c main_v10) (V c main_v13) (((cfg2.win 6).blk t).view.emb y)
    generalize ((cfg2.win 6).blk t).view.emb y = i at e
    have e1 : (i 0).val = 8192 * t.val + (y 0).val := e
    have hy : (y 0).val < 8192 := (y 0).isLt
    have hs : (i 0).val / 8192 = t.val := by rw [e1]; omega
    unfold entr
    rw [gBlk_eq V c t (i 0) hs, hBlk_eq V c t (i 0) hs, mBlk_eq V c t (i 0) hs]
    congr 1
    rw [eq_ix1 y]
    congr 1
    apply Fin.ext
    show (y 0).val = (i 0).val % 8192
    rw [e1]; omega
  · obtain ⟨t, ht⟩ := cover2_6 i
    exact ⟨t, flush2_6 t, ht⟩

end Cert.Proof.KernelIdeal

end
-- ==== Proof.KI.Main.lean ====
/-
  The kernel's `main` on a device's TensorCore: from the launch's memory through the four lines of host operations, the
  projection, the gather and the head, each step a definite function of the contents before it. The valuations are named
  in order; the last one is what the device's memory holds at the end.
-/
module

public import proofs.«01_k».proof.Proof.KI.Ops
public import proofs.«01_k».proof.Proof.KI.Call
public import proofs.«01_k».proof.Proof.KI.Region2

@[expose] public section

noncomputable section

namespace Cert.Proof.KernelIdeal

open Cert.KernelIdeal Cert.KernelIdeal.Gen Cert.Proof.Whole Cert.Proof.Arith
open Idealize.ShloMosaic hiding ix0 ix1 ix2 ix3
open Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held launchContents)

variable {F : FTy → Type} [FloatOps F]

local notation "𝕄" => MT nD τ sig (HIx 1) (Elt F) ℕ UU ℕ

/-! ## The valuations -/

/-- A valuation with one buffer of the TensorCore set. -/
def put (W : Valuation τ sig (Elt F)) (b : Ref sig .tc) (v : b.ty.Contents (Elt F)) : Valuation τ sig (Elt F) :=
  Function.update W (Proc.devRef .tc b) v

theorem put_self (W : Valuation τ sig (Elt F)) (b : Ref sig .tc) (v : b.ty.Contents (Elt F)) : put W b v (Proc.devRef .tc b) = v :=
  Function.update_self ..
theorem put_ne (W : Valuation τ sig (Elt F)) (b : Ref sig .tc) (v : b.ty.Contents (Elt F)) {b' : Ref sig .tc} (h : b' ≠ b) :
    put W b v (Proc.devRef .tc b') = W (Proc.devRef .tc b') :=
  Function.update_of_ne (fun e => h (Proc.devRef_injective _ e)) ..

variable (m : (ℓ : Loc nD τ sig) → Buf (Elt F) ℓ) (ρ : Dev nD → PrngReg)

/-- After the weights and the offset are prepared; -/
def A1 (d : Dev nD) : Valuation τ sig (Elt F) := after line0 (launchContents m d)
/-- after the projection; -/
def A2 (d : Dev nD) : Valuation τ sig (Elt F) :=
  put (A1 m d) main_v3 (table (A1 m d (Proc.devRef .tc main_arg0)) (A1 m d (Proc.devRef .tc main_v1)) (A1 m d (Proc.devRef .tc main_v2)))
/-- after the index arithmetic; -/
def A3 (d : Dev nD) : Valuation τ sig (Elt F) := after line1 (A2 m d)
/-- after the gather; -/
def A4 (d : Dev nD) : Valuation τ sig (Elt F) :=
  put (A3 m d) main_v12 (gathered (A3 m d (Proc.devRef .tc main_v3)) (A3 m d (Proc.devRef .tc main_v11)))
/-- after the mask's transpose; -/
def A5 (d : Dev nD) : Valuation τ sig (Elt F) := after line2 (A4 m d)
/-- after the head; -/
def A6 (d : Dev nD) : Valuation τ sig (Elt F) :=
  put (put (put (A5 m d)
    main_v14_0 (normT (A5 m d (Proc.devRef .tc main_v12)) (A5 m d (Proc.devRef .tc main_v10)) (A5 m d (Proc.devRef .tc main_v13))))
    main_v14_1 (logp (A5 m d (Proc.devRef .tc main_v12)) (A5 m d (Proc.devRef .tc main_v10)) (A5 m d (Proc.devRef .tc main_v13)) (A5 m d (Proc.devRef .tc main_arg3))))
    main_v14_2 (entr (A5 m d (Proc.devRef .tc main_v12)) (A5 m d (Proc.devRef .tc main_v10)) (A5 m d (Proc.devRef .tc main_v13)))
/-- at the end. -/
def A7 (d : Dev nD) : Valuation τ sig (Elt F) := after line3 (A6 m d)

/-- A device's valuations as each core's buffers. -/
def bufs (W : Dev nD → Valuation τ sig (Elt F)) : (c : Dev nD) → (b : Ref sig .tc) → Buf (Elt F) ((c : Thread nD τ).loc b) :=
  fun c b => W c (Proc.devRef .tc b)

omit [FloatOps F] in
theorem unscopedBufs_held (c : Dev nD) (W : Dev nD → Valuation τ sig (Elt F)) :
    (unscopedBufs c (bufs W c) : sProp 𝕄) = held (c : Thread nD τ) ucRefs (W c) := by
  unfold unscopedBufs held ucRefs StableHlo.tcRefs
  rw [Finset.filter_map, bigSep_map]; rfl

/-- What the gather's launch is given: the table, the row numbers, the output's contents. -/
abbrev TB : Dev nD → S65536x128.Idx → Elt F .f32 := fun d => A3 m d (Proc.devRef .tc main_v3)
abbrev IX : Dev nD → S1x65536.Idx → Elt F .i32 := fun d => A3 m d (Proc.devRef .tc main_v11)
abbrev OB : Dev nD → S65536x128.Idx → Elt F .f32 := fun d => A3 m d (Proc.devRef .tc main_v12)

/-- Every actor is below 131072. -/
def PreOK : Prop := ∀ (d : Dev nD) (i : S65536.Idx), (launchContents m d (Proc.devRef .tc main_arg1) i : BitVec 32).toNat < 131072

/-! ## The regions -/

/-- The pipelines' tables: none. -/
abbrev adm : (p : Fin 2) → (pcfgs (F := F) p).Adm := fun p => (cfgs p).toPCfg_adm

/-- The pipelines' share of the launch's ghost state, on a device. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- A TensorCore region run from `main`. -/
theorem wp_region [∀ e, Nonempty (Elt F e)] {p : Fin 2} {pd : (p : Fin 2) → (c : Dev nD) → Pipeline.Dat τ (Elt F) (HIx 1) ℕ UU ℕ (Pipeline.pin (pcfgs (F := F)) adm p) c}
    (R : Pipeline.RegionSeg (pcfgs (F := F)) adm pd none defs₀ 𝒱₀ (K (F := F)).L (K (F := F)).lev p) (d : Dev nD) (Q : PUnit → sProp 𝕄) :
    iprop((iprop(boundary (d : Thread nD τ) ∗ R.post d) -∗ Q ⟨⟩) ∗ boundary (d : Thread nD τ) ∗ R.pre d ∗ levAts (K (F := F)).L (K (F := F)).lev ∗ ghost p d)
      ⊢ wp frame (wpE ((K (F := F)).defs (D (F := F))) 𝒱 (SparseCore.T d) none) Set.univ (Prog.lift (.customCall (SparseCore.inner (Pipeline.entry p)) ())) Q := by
  have h := Pipeline.RegionSeg.wp (pcfgs (F := F)) adm pd none cellOf_inj EP defs₀ 𝒱₀ (K (F := F)).L (K (F := F)).lev R d none (fun _ h => nomatch h)
    (fun u => .ret u) Q
  have h' := h.trans ((K (F := F)).wp_liftProg (D (F := F)) 𝒱 (SparseCore.T d) Set.univ none _ Q)
  unfold ghost
  iintro ⟨Hk, Hb, Hpre, Hlev, Hg, Ht⟩
  iapply h'
  isplitl [Hk]
  · iintro H
    rw [wp_ret]; imodintro
    iapply Hk; iexact H
  isplitl [Hb]; · iexact Hb
  isplitl [Hpre]; · iexact Hpre
  isplitl [Hlev]; · iexact Hlev
  isplitl [Hg] <;> iassumption

/-! ## What each step keeps -/

theorem A3_rows (d : Dev nD) (s : Fin 65536) : A3 m d (Proc.devRef .tc main_v11) (ix2 0 s) = rowWord (launchContents m d (Proc.devRef .tc main_arg1) (ix1 s)) := by
  unfold A3; rw [read_rows]
  unfold A2; rw [put_ne _ _ _ (by decide)]
  unfold A1; rw [keep0 _ (by decide) (by decide) (by decide)]

/-- The row numbers are rows of the table. -/
theorem IX_lt (hm : PreOK m) (d : Dev nD) (x : S1x65536.Idx) : (IX m d x).toNat < 65536 := by
  have hx : x = ix2 0 (x 1) := by
    funext a; fin_cases a
    · exact Subsingleton.elim (α := Fin 1) _ _
    · rfl
  have e : IX m d x = rowWord (launchContents m d (Proc.devRef .tc main_arg1) (ix1 (x 1))) :=
    (congrArg (IX m d) hx).trans (A3_rows m d (x 1))
  rw [e]
  exact rowWord_lt (hm d _)

/-! ## `main` -/

/-- The TensorCore's state before call `n`, without its debts. -/
def stRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem tcSt_split (d : Dev nD) (n : ℕ) : ((K (F := F)).tcSt EH d n : sProp 𝕄) = iprop(debts n d ∗ stRest d n) := rfl

/-- The three arrays of the gather, out of the TensorCore's. -/
def scRefs : Finset (DevRef τ sig) := {Proc.devRef .tc main_v3, Proc.devRef .tc main_v11, Proc.devRef .tc main_v12}
theorem scRefs_sub : scRefs ⊆ ucRefs := by decide

omit [FloatOps F] in
theorem held_sc (d : Dev nD) (W : Valuation τ sig (Elt F)) : (held (d : Thread nD τ) ucRefs W : sProp 𝕄)
    = iprop(((tLoc d ↦{fullShare} W (Proc.devRef .tc main_v3)) ∗ (iLoc d ↦{fullShare} W (Proc.devRef .tc main_v11)) ∗ (oLoc d ↦{fullShare} W (Proc.devRef .tc main_v12)))
      ∗ held (d : Thread nD τ) (ucRefs \ scRefs) W) := by
  rw [StableHlo.held_sub_split (d : Thread nD τ) scRefs_sub W]
  conv_lhs => unfold held scRefs
  rw [SparseCore.bigSep_insert' (by decide), SparseCore.bigSep_insert' (by decide), bigSep_singleton]
  rfl

theorem held_put (d : Dev nD) (W : Valuation τ sig (Elt F)) (v : main_v12.ty.Contents (Elt F)) :
    (held (d : Thread nD τ) (ucRefs \ scRefs) (put W main_v12 v) : sProp 𝕄) = held (d : Thread nD τ) (ucRefs \ scRefs) W :=
  StableHlo.held_congr (d : Thread nD τ) fun b hb => Function.update_of_ne (fun e => (Finset.mem_sdiff.mp hb).2 (by
    rw [e]; exact Finset.mem_insert_of_mem (Finset.mem_insert_of_mem (Finset.mem_singleton_self _)))) ..

theorem held_A4 (d : Dev nD) : (held (d : Thread nD τ) ucRefs (A4 m d) : sProp 𝕄)
    = iprop(((tLoc d ↦{fullShare} TB m d) ∗ (iLoc d ↦{fullShare} IX m d) ∗ (oLoc d ↦{fullShare} gathered (TB m d) (IX m d)))
      ∗ held (d : Thread nD τ) (ucRefs \ scRefs) (A3 m d)) := by
  rw [held_sc]
  unfold A4
  rw [put_ne _ _ _ (by decide), put_ne _ _ _ (by decide), put_self, held_put]

theorem A2_v3 (c : Dev nD) : bufs (A2 m) c main_v3 = (dat0 (F := F) (bufs (A1 m)) 0 c).arrAt 3 cfg0.N := by
  rw [arrAt0]; exact put_self (A1 m c) main_v3 _
theorem A2_ne (c : Dev nD) (b : Ref sig .tc) (hb : b ≠ main_v3) : bufs (A2 m) c b = bufs (A1 m) c b := put_ne _ _ _ hb

theorem A6_v14_0 (c : Dev nD) : bufs (A6 m) c main_v14_0 = (dat2 (F := F) (bufs (A5 m)) 1 c).arrAt 4 cfg2.N := by
  rw [arrAt2_4]
  show A6 m c (Proc.devRef .tc main_v14_0) = _
  unfold A6
  rw [put_ne _ _ _ (by decide), put_ne _ _ _ (by decide), put_self]
  rfl
theorem A6_v14_1 (c : Dev nD) : bufs (A6 m) c main_v14_1 = (dat2 (F := F) (bufs (A5 m)) 1 c).arrAt 5 cfg2.N := by
  rw [arrAt2_5]
  show A6 m c (Proc.devRef .tc main_v14_1) = _
  unfold A6
  rw [put_ne _ _ _ (by decide), put_self]
  rfl
theorem A6_v14_2 (c : Dev nD) : bufs (A6 m) c main_v14_2 = (dat2 (F := F) (bufs (A5 m)) 1 c).arrAt 6 cfg2.N := by
  rw [arrAt2_6]
  show A6 m c (Proc.devRef .tc main_v14_2) = _
  unfold A6
  rw [put_self]
  rfl
theorem A6_ne (c : Dev nD) (b : Ref sig .tc) (h0 : b ≠ main_v14_0) (h1 : b ≠ main_v14_1) (h2 : b ≠ main_v14_2) :
    bufs (A6 m) c b = bufs (A5 m) c b := by
  show A6 m c (Proc.devRef .tc b) = A5 m c (Proc.devRef .tc b)
  unfold A6
  rw [put_ne _ _ _ h2, put_ne _ _ _ h1, put_ne _ _ _ h0]

/-- The projection's region between the valuations. -/
def regA := reg0 (F := F) (bufs (A1 m)) (adm (F := F)) (bufs (A2 m)) 0 (A2_v3 m) (A2_ne m)

/-- The head's region between the valuations. -/
def regB := reg2 (F := F) (bufs (A5 m)) (adm (F := F)) (bufs (A6 m)) 1 (A6_v14_0 m) (A6_v14_1 m) (A6_v14_2 m) (A6_ne m)

/-- What the launch deals a device beside the handshakes: both pipelines' ghost state. -/
def G (d : Dev nD) : sProp 𝕄 := iprop(ghost (F := F) 0 d ∗ ghost (F := F) 1 d)
/-- What a device ends with: every array at the last valuation. -/
def FIN (d : Dev nD) : sProp 𝕄 := held (d : Thread nD τ) ucRefs (A7 m d)

theorem hmain [∀ e, Nonempty (Elt F e)] (κ : GSem nD τ sig → ℕ) (d : Dev nD) :
    iprop((K (F := F)).ctx EH (P (TB m) (IX m) (OB m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G FIN
  rw [show (fun b => m ((SparseCore.T d).loc b)) = bufs (fun d => launchContents m d) d from rfl, unscopedBufs_held, main_eq]
  iintro ⟨#Hctx, Hst, ⟨Hb, Hheld, Hts, -⟩, Hg0, Hg1⟩
  ihave #Hlev := ((K (F := F)).ctx_levAts κ) $$ Hctx
  -- the first line
  iapply (StableHlo.wp_seq 𝒱 none Set.univ d ucRefs (fun _ => _) line0 line0_sub line0_fresh (launchContents m d)) $$ [Hb Hheld]
  · isplitl [Hb] <;> iassumption
  iintro ⟨Hb, Hheld⟩
  ihave Hheld := (show held (d : Thread nD τ) ucRefs (after line0 (launchContents m d)) ⊢ (held (d : Thread nD τ) ucRefs (A1 m d) : sProp 𝕄) from BI.Entails.refl _) $$ Hheld
  -- the projection
  rw [wp_bind]
  ihave Hst' := (Entails.of_eq (tcSt_split d 0)) $$ Hst
  icases Hst' with ⟨Hdebts, Hrest⟩
  iapply (wp_region (regA m) d _)
  isplitl [Hts Hrest Hg1]
  rotate_left
  · isplitl [Hb]; · iexact Hb
    isplitl [Hheld Hdebts]
    · iapply (show iprop(held (d : Thread nD τ) ucRefs (A1 m d) ∗ debts 0 d) ⊢ (regA m).pre d from by
        rw [← unscopedBufs_held]; exact BI.Entails.refl _)
      isplitl [Hheld] <;> iassumption
    isplitr
    · iexact Hlev
    iexact Hg0
  iintro ⟨Hb, Hpost⟩
  ihave Hpost' := (show (regA m).post d ⊢ iprop(held (d : Thread nD τ) ucRefs (A2 m d) ∗ debts 0 d) from by
        rw [← unscopedBufs_held]; exact BI.Entails.refl _) $$ Hpost
  icases Hpost' with ⟨Hheld, Hdebts⟩
  -- the index arithmetic
  iapply (StableHlo.wp_seq 𝒱 none Set.univ d ucRefs (fun _ => _) line1 line1_sub line1_fresh (A2 m d)) $$ [Hb Hheld]
  · isplitl [Hb] <;> iassumption
  iintro ⟨Hb, Hheld⟩
  ihave Hheld := (show held (d : Thread nD τ) ucRefs (after line1 (A2 m d)) ⊢ (held (d : Thread nD τ) ucRefs (A3 m d) : sProp 𝕄) from BI.Entails.refl _) $$ Hheld
  -- the gather
  ihave Hh := (Entails.of_eq (held_sc d (A3 m d))) $$ Hheld
  icases Hh with ⟨Hsc, Hheld⟩
  rw [wp_bind]
  iapply ((K (F := F)).wp_run (D (F := F)) 𝒱 (EH := EH) (P := P (TB m) (IX m) (OB m)) κ d 0)
  isplitr; · iexact Hctx
  isplitl [Hdebts Hrest]
  · iapply (Entails.of_eq (tcSt_split d 0).symm)
    isplitl [Hdebts] <;> iassumption
  isplitl [Hsc]
  · iapply (call_split (TB m) (IX m) (OB m) d)
    iexact Hsc
  iintro ⟨Hst, Hdn⟩
  ihave Hsc := (call_join (TB m) (IX m) (OB m) d) $$ Hdn
  ihave Hheld := (Entails.of_eq (held_A4 m d).symm) $$ [Hsc Hheld]
  · isplitl [Hsc] <;> iassumption
  -- the mask's transpose
  iapply (StableHlo.wp_seq 𝒱 none Set.univ d ucRefs (fun _ => _) line2 line2_sub line2_fresh (A4 m d)) $$ [Hb Hheld]
  · isplitl [Hb] <;> iassumption
  iintro ⟨Hb, Hheld⟩
  ihave Hheld := (show held (d : Thread nD τ) ucRefs (after line2 (A4 m d)) ⊢ (held (d : Thread nD τ) ucRefs (A5 m d) : sProp 𝕄) from BI.Entails.refl _) $$ Hheld
  -- the head
  rw [wp_bind]
  ihave Hst' := (show ((K (F := F)).tcSt EH d ((0 : Fin 1).val + 1) : sProp 𝕄) ⊢ iprop(debts 1 d ∗ stRest d 1) from BI.Entails.refl _) $$ Hst
  icases Hst' with ⟨Hdebts, Hrest⟩
  iapply (wp_region (regB m) d _)
  isplitl [Hts Hrest]
  rotate_left
  · isplitl [Hb]; · iexact Hb
    isplitl [Hheld Hdebts]
    · iapply (show iprop(held (d : Thread nD τ) ucRefs (A5 m d) ∗ debts 1 d) ⊢ (regB m).pre d from by
        rw [← unscopedBufs_held]; exact BI.Entails.refl _)
      isplitl [Hheld] <;> iassumption
    isplitr
    · iexact Hlev
    iexact Hg1
  iintro ⟨Hb, Hpost⟩
  ihave Hpost' := (show (regB m).post d ⊢ iprop(held (d : Thread nD τ) ucRefs (A6 m d) ∗ debts 1 d) from by
        rw [← unscopedBufs_held]; exact BI.Entails.refl _) $$ Hpost
  icases Hpost' with ⟨Hheld, Hdebts⟩
  -- the last line
  rw [show (StableHlo.seq line3 : HostProg F) = (StableHlo.seq line3 >>= fun u => pure u) from (bind_pure _).symm]
  iapply (StableHlo.wp_seq 𝒱 none Set.univ d ucRefs (fun u => pure u) line3 line3_sub line3_fresh (A6 m d)) $$ [Hb Hheld]
  · isplitl [Hb] <;> iassumption
  iintro ⟨Hb, Hheld⟩
  ihave Hheld := (show held (d : Thread nD τ) ucRefs (after line3 (A6 m d)) ⊢ (held (d : Thread nD τ) ucRefs (A7 m d) : sProp 𝕄) from BI.Entails.refl _) $$ Hheld
  rw [wp_pure]; imodintro
  isplitl [Hdebts Hrest]
  · iapply (Entails.of_eq (tcSt_split d 1).symm)
    isplitl [Hdebts] <;> iassumption
  isplitl [Hheld]; · iexact Hheld
  isplitl [Hb] <;> iassumption

end Cert.Proof.KernelIdeal

end
-- ==== Proof.KI.Run.lean ====
/-
  The kernel's run from any memory whose actors are rows of the table: every schedule ends, the semaphores' counters are
  zero, and every array of a device is at the last valuation of `main`.
-/
module

public import proofs.«01_k».proof.Proof.KI.Main

@[expose] public section

noncomputable section

namespace Cert.Proof.KernelIdeal

open Cert.KernelIdeal Cert.KernelIdeal.Gen Cert.Proof.Whole Cert.Proof.Arith
open Idealize.ShloMosaic hiding ix0 ix1 ix2 ix3
open Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held launchContents)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The handshakes' rounds, the pipelines' rounds, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The launch's element deals the handshakes' rounds to the launch theorem and the pipelines' to the devices. -/
theorem hu₀ (TB' : Dev nD → S65536x128.Idx → Elt F .f32) (IX' : Dev nD → S1x65536.Idx → Elt F .i32) (O0 : Dev nD → S65536x128.Idx → Elt F .f32) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P TB' IX' O0).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, Hr⟩
  ihave H := (own_pair_emb (embR : Emb (UP × Counters) 𝕄)
    (initOf (Pipeline.cells (Pipeline.pin (pcfgs (F := F)) adm) cellOf_inj) (Pipeline.launchToks (Pipeline.pin (pcfgs (F := F)) adm) cellOf_inj)) (1 : Counters)) $$ Hr
  icases H with ⟨HP, -⟩
  ihave HP := (show (BI.own (((Emb.inl : Emb UP (UP × Counters)).trans embR).toFun (initOf (Pipeline.cells (Pipeline.pin (pcfgs (F := F)) adm) cellOf_inj) (Pipeline.launchToks (Pipeline.pin (pcfgs (F := F)) adm) cellOf_inj))) : sProp 𝕄)
    ⊢ BI.own (EP (F := F) (initOf (Pipeline.cells (Pipeline.pin (pcfgs (F := F)) adm) cellOf_inj) (Pipeline.launchToks (Pipeline.pin (pcfgs (F := F)) adm) cellOf_inj))) from BI.Entails.refl _) $$ HP
  imod (Pipeline.fund_ghost (Pipeline.pin (pcfgs (F := F)) adm) (EP (F := F)) cellOf_inj) $$ HP with ⟨Hg, Ht⟩
  imodintro
  isplitl [HH]; · iexact HH
  isplitl [Hg Ht]
  · have e : ∀ Φ : Dev nD → Fin 2 → sProp 𝕄, (bigSep Finset.univ fun c => bigSep Finset.univ fun p => Φ c p)
        = iprop((bigSep Finset.univ fun c => Φ c 0) ∗ bigSep Finset.univ fun c => Φ c 1) := fun Φ => by
      rw [← bigSep_sep']; exact bigSep_congr fun _ _ => BI.bigSep_fin_two _
    ihave Hg' := (Entails.of_eq (e fun c p => Pipeline.cellsGhost (Pipeline.pin (pcfgs (F := F)) adm) EP p c)) $$ Hg
    ihave Ht' := (Entails.of_eq (e fun c p => Pipeline.toksInit (Pipeline.pin (pcfgs (F := F)) adm) EP p c)) $$ Ht
    unfold G ghost
    simp only [bigSep_sep']
    icases Hg' with ⟨Hg0, Hg1⟩
    icases Ht' with ⟨Ht0, Ht1⟩
    isplitl [Hg0 Ht0]
    · isplitl [Hg0] <;> iassumption
    · isplitl [Hg1] <;> iassumption
  rw [show (bigSep Finset.univ fun thr : Thread nD τ => bigSep Finset.univ fun q : Fin 1 => (P (F := F) TB' IX' O0).x q thr) = iprop(emp) from
    (bigSep_congr fun _ _ => bigSep_univ_of_subsingleton (0 : Fin 1)).trans (bigSep_emp_const _)]
  iempintro

/-! ## The end -/

/-- Every array of the device's TensorCore is at the last valuation. -/
def fq (d : Dev nD) (s' : Phys nD τ sig (Elt F)) : Prop := ∀ b ∈ ucRefs, s'.mem.mem (d, b) = A7 m d b

theorem hfin (d : Dev nD) (s' : Phys nD τ sig (Elt F)) : iprop(FIN m d ∗ SI s') ⊢ (⌜fq m d s'⌝ : sProp 𝕄) := by
  have h := SI_pointsTo_bufs_agree (st := s') (c := d) (qs := fun _ => fullShare) (F := A7 m d) (Ix := HIx 1) (Lvl := ℕ) (U := UU) (Name := ℕ) ucRefs
  unfold FIN held
  iintro ⟨Hh, HSI⟩
  iapply h
  isplitl [HSI] <;> iassumption

/-- What a run ends in. -/
def QC : PUnit × MemSt nD τ sig (Elt F) → Prop := fun r => (∀ d : Dev nD, ∀ b ∈ ucRefs, r.2.mem (d, b) = A7 m d b) ∧ r.2.sem = fun _ => 0

/-- The run, from a memory whose actors are below 131072. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (TB m) (IX m) (OB m)) (A := ∅) facts v₀
    (fun q hq => match q with | 0 => nomatch hq)
    (fun q _ => match q with | 0 => tileObl (TB m) (IX m) (OB m) facts (IX_lt m hpre))
    (fun q _ => match q with | 0 => SparseCore.Cfg.VecSplit.of_plain (vecSplit (TB m) (IX m) (OB m)))
    m ρ main (fun d => G d) (FIN m) (u₀ (F := F)) (sep_elim_left.trans (hu₀ _ _ _)) (hmain m ρ) (fq m) (hfin m) (QC m) (fun _ h hz => ⟨h, hz⟩)

/-- The run with one of the TensorCore's arrays named. -/
theorem mem_of_QC {r : PUnit × MemSt nD τ sig (Elt F)} (h : QC m r) (d : Dev nD) (b : Ref sig .tc) (hb : Proc.devRef .tc b ∈ (ucRefs : Finset (DevRef τ sig))) :
    r.2.mem ((d.tc : Thread nD τ).loc b) = A7 m d (Proc.devRef .tc b) := h.1 d _ hb

/-- An argument keeps its contents through `main`. -/
theorem A7_arg (d : Dev nD) {b : Ref sig .tc}
    (hb : b = main_arg0 ∨ b = main_arg1 ∨ b = main_arg2 ∨ b = main_arg3 ∨ b = main_arg4 ∨ b = main_arg5) :
    A7 m d (Proc.devRef .tc b) = m ((d.tc : Thread nD τ).loc b) := by
  have n : b ≠ main_v15 ∧ b ≠ main_v14_0 ∧ b ≠ main_v14_1 ∧ b ≠ main_v14_2 ∧ b ≠ main_v13 ∧ b ≠ main_v12 ∧ b ≠ main_v3
      ∧ b ≠ main_v0 ∧ b ≠ main_v1 ∧ b ≠ main_v2 := by
    rcases hb with h | h | h | h | h | h <;> subst h <;> decide
  obtain ⟨n15, n0, n1, n2, n13, n12, n3, k0, k1, k2⟩ := n
  unfold A7; rw [keep3 _ n15]
  unfold A6; rw [put_ne _ _ _ n2, put_ne _ _ _ n1, put_ne _ _ _ n0]
  unfold A5; rw [keep2 _ n13]
  unfold A4; rw [put_ne _ _ _ n12]
  unfold A3; rw [keep1 _ (by rcases hb with h | h | h | h | h | h <;> simp [h])]
  unfold A2; rw [put_ne _ _ _ n3]
  unfold A1; rw [keep0 _ k0 k1 k2]

/-- A final memory has the arguments it began with. -/
theorem arg_of_QC {r : PUnit × MemSt nD τ sig (Elt F)} (h : QC m r) (d : Dev nD) {b : Ref sig .tc}
    (hb : b = main_arg0 ∨ b = main_arg1 ∨ b = main_arg2 ∨ b = main_arg3 ∨ b = main_arg4 ∨ b = main_arg5) :
    r.2.mem ((d.tc : Thread nD τ).loc b) = m ((d.tc : Thread nD τ).loc b) :=
  (mem_of_QC m h d b (by rcases hb with h | h | h | h | h | h <;> subst h <;> decide)).trans (A7_arg m d hb)

/-- The argument arrays of every device end as they began, and every semaphore is at zero. -/
def Kept (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

theorem kept_of_QC {r : PUnit × MemSt nD τ sig (Elt F)} (h : QC m r) : Kept m r :=
  ⟨fun c => ⟨arg_of_QC m h c (by simp), arg_of_QC m h c (by simp), arg_of_QC m h c (by simp), arg_of_QC m h c (by simp),
    arg_of_QC m h c (by simp), arg_of_QC m h c (by simp)⟩, h.2⟩

/-- The frame: a run from such a memory keeps the arguments and ends quiescent. -/
theorem frame [∀ e, Nonempty (Elt F e)] (hpre : PreOK m) :
    θ_run (Cert.KernelIdeal.defs (F := F)) (Cert.KernelIdeal.threads (F := F)) ⟨m, fun _ => 0, ρ⟩ (Kept m) :=
  (θ_run _ _ _).mono (fun _ h => kept_of_QC m h) (run_main m ρ hpre)

end Cert.Proof.KernelIdeal

end
-- ==== Proof.Frames.lean ====
/-
  The five frames. The kernel's are its run (`K/Run.lean`, and `KI/Run.lean` for its ideal reading) under a precondition,
  which says that every row the table is asked for is one it has. The reference's is its generated run; it has no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Pre
public import proofs.«01_k».proof.Proof.K.Run
public import proofs.«01_k».proof.Proof.KI.Run

@[expose] public section

noncomputable section

namespace Cert.Proof

open Idealize.ShloMosaic Idealize.SL.Sem

/-- Where the precondition on the row numbers holds, every row number is below the table's height. -/
theorem kernel_ok (m : (ℓ : Loc Cert.Kernel.nD Cert.Kernel.τ Cert.Kernel.sig) → Buf (Elt Bits) ℓ) (h : Cert.Pre_Kernel m) :
    Cert.Proof.Kernel.PreOK m := fun d i => Pre.named (h d) i

theorem kernelIdeal_ok (m : (ℓ : Loc Cert.KernelIdeal.nD Cert.KernelIdeal.τ Cert.KernelIdeal.sig) → Buf (Elt Ideal) ℓ) (h : Cert.Pre_KernelIdeal m) :
    Cert.Proof.KernelIdeal.PreOK m := fun d i => Pre.named (h d) i

theorem kernelIdeal_ok_ranged (m : (ℓ : Loc Cert.KernelIdeal.nD Cert.KernelIdeal.τ Cert.KernelIdeal.sig) → Buf (Elt Ideal) ℓ)
    (h : Cert.Pre_KernelIdeal_inputs_ranged m) : Cert.Proof.KernelIdeal.PreOK m := fun d i => (Pre.ranged (h d)).1 i

/-- The kernel's frame: where the row numbers are in range it runs, keeps its arguments and ends quiescent. -/
theorem frame_kernel : Cert.quiescent_Kernel := fun m g h => Cert.Proof.Kernel.frame m g (kernel_ok m h)

/-- The same of the kernel at the ideal floats, -/
theorem frame_kernelIdeal : Cert.quiescent_KernelIdeal := fun m g h => Cert.Proof.KernelIdeal.frame m g (kernelIdeal_ok m h)

/-- and under the value claim's precondition. -/
theorem frame_kernelIdeal_ranged : Cert.quiescent_KernelIdeal_pre_inputs_ranged :=
  fun m g h => Cert.Proof.KernelIdeal.frame m g (kernelIdeal_ok_ranged m h)

/-- The reference runs, keeps its arguments and ends quiescent. -/
theorem frame_reference : Cert.quiescent_ReferenceIdeal := fun m g _ =>
  (θ_run _ _ _).mono (fun r h => ⟨fun c => (h c).2.2.2.2, sem_eq_zero_of_no_sems (by decide) r.2⟩) (Cert.ReferenceIdeal.Value.run m g)

/-- The same, stated under the value claim's precondition. -/
theorem frame_reference_ranged : Cert.quiescent_ReferenceIdeal_pre_inputs_ranged := fun m g _ => frame_reference m g trivial

end Cert.Proof

end
-- ==== Proof.Soft.lean ====
/-
  One row of the head, as mathematics on the extended reals. A row has a real score for every choice and a set of legal
  choices; an illegal choice counts as minus infinity. `peak` is the row's greatest entry and `mass` the sum of the
  exponentials less it.
-/
module

public import Idealize.ShloMosaic.PureOps.Ideal

@[expose] public section

noncomputable section

namespace Cert.Proof.Soft

open Idealize.ShloMosaic

variable {n : ℕ}

/-- A finite sum of reals is the same real among the extended reals. -/
theorem coe_sum (f : Fin n → ℝ) : ((∑ h, f h : ℝ) : EReal) = ∑ h, (f h : EReal) := by
  induction (Finset.univ : Finset (Fin n)) using Finset.cons_induction with
  | empty => simp
  | cons a s ha ih => rw [Finset.sum_cons, Finset.sum_cons, EReal.coe_add, ih]

/-- The row's greatest entry. -/
def peak (L : Fin n → EReal) : EReal := Finset.fold max ⊥ L Finset.univ

/-- The sum of the exponentials of the entries less the greatest. -/
def mass (L : Fin n → EReal) : EReal := ∑ h, Ideal.exp (L h - peak L)

/-- The normalized entry: the entry less the greatest and the logarithm of the mass, added first. -/
def norm (L : Fin n → EReal) (h : Fin n) : EReal := L h - (peak L + Ideal.log (mass L))

/-- The row: a real score at a legal choice, minus infinity at another. -/
def row (legal : Fin n → Prop) [DecidablePred legal] (g : Fin n → ℝ) (h : Fin n) : EReal := if legal h then (g h : EReal) else ⊥

variable (legal : Fin n → Prop) [DecidablePred legal] (g : Fin n → ℝ)

theorem peak_sup (L : Fin n → EReal) : peak L = Finset.univ.sup L := rfl

/-- With no legal choice, the greatest entry is minus infinity. -/
theorem peak_none (hn : ∀ h, ¬ legal h) : peak (row legal g) = ⊥ := by
  rw [peak_sup]
  refine (Finset.sup_eq_bot_iff _ _).2 fun h _ => ?_
  simp [row, hn h]

/-- With a legal choice it is a real number. -/
theorem peak_some (hs : ∃ h, legal h) : ∃ r : ℝ, peak (row legal g) = r := by
  obtain ⟨h₀, hh⟩ := hs
  obtain ⟨i, -, hi⟩ := Finset.exists_mem_eq_sup Finset.univ ⟨h₀, Finset.mem_univ _⟩ (row legal g)
  have hle : row legal g h₀ ≤ Finset.univ.sup (row legal g) := Finset.le_sup (Finset.mem_univ h₀)
  rw [peak_sup, hi]
  by_cases hl : legal i
  · exact ⟨g i, by simp [row, hl]⟩
  · rw [hi] at hle
    simp [row, hl, hh] at hle

/-- With no legal choice, the mass is zero. -/
theorem mass_none (hn : ∀ h, ¬ legal h) : mass (row legal g) = 0 := by
  unfold mass
  refine Finset.sum_eq_zero fun h _ => ?_
  rw [peak_none legal g hn]
  simp [row, hn h]

/-- The exponential of an entry less a real. -/
theorem exp_row (r : ℝ) (h : Fin n) :
    Ideal.exp (row legal g h - (r : EReal)) = ((if legal h then Real.exp (g h - r) else 0 : ℝ) : EReal) := by
  by_cases hl : legal h
  · simp only [row, hl, if_true]
    rw [← EReal.coe_sub]; rfl
  · simp only [row, hl, if_false]
    rw [EReal.bot_sub]; rfl

/-- With a legal choice, the mass is a positive real number. -/
theorem mass_some (hs : ∃ h, legal h) {r : ℝ} (hr : peak (row legal g) = r) :
    ∃ s : ℝ, 0 < s ∧ mass (row legal g) = s := by
  obtain ⟨h₀, hh⟩ := hs
  refine ⟨∑ h, (if legal h then Real.exp (g h - r) else 0), ?_, ?_⟩
  · refine Finset.sum_pos' (fun h _ => ?_) ⟨h₀, Finset.mem_univ _, ?_⟩
    · split <;> [exact (Real.exp_pos _).le; exact le_rfl]
    · rw [if_pos hh]; exact Real.exp_pos _
  · unfold mass
    rw [coe_sum]
    refine Finset.sum_congr rfl fun h _ => ?_
    rw [hr, exp_row]

theorem log_pos {s : ℝ} (hs : 0 < s) : Ideal.log (s : EReal) = (Real.log s : EReal) := by
  show (if s ≤ 0 then (⊥ : EReal) else (Real.log s : EReal)) = _
  rw [if_neg (not_le.2 hs)]

/-- The normalized entry with the greatest taken off first and the logarithm after. -/
theorem norm_eq (h : Fin n) :
    row legal g h - peak (row legal g) - Ideal.log (mass (row legal g)) = norm (row legal g) h := by
  unfold norm
  by_cases hs : ∃ h, legal h
  · obtain ⟨r, hr⟩ := peak_some legal g hs
    obtain ⟨s, hpos, hm⟩ := mass_some legal g hs hr
    rw [hr, hm, log_pos hpos]
    by_cases hl : legal h
    · simp only [row, hl, if_true]
      rw [← EReal.coe_sub, ← EReal.coe_sub, ← EReal.coe_add, ← EReal.coe_sub]
      congr 1; ring
    · simp only [row, hl, if_false, EReal.bot_sub]
  · have hn : ∀ h, ¬ legal h := fun h hh => hs ⟨h, hh⟩
    simp only [row, hn h, if_false, EReal.bot_sub]

/-- The exponential of the normalized entry is the entry's share of the mass, where the choice is legal, -/
theorem exp_norm {h : Fin n} (hl : legal h) :
    Ideal.exp (norm (row legal g) h) = Ideal.div (Ideal.exp (row legal g h - peak (row legal g))) (mass (row legal g)) := by
  obtain ⟨r, hr⟩ := peak_some legal g ⟨h, hl⟩
  obtain ⟨s, hpos, hm⟩ := mass_some legal g ⟨h, hl⟩ hr
  rw [← norm_eq, hr, hm, log_pos hpos, exp_row]
  simp only [row, hl, if_true]
  rw [← EReal.coe_sub, ← EReal.coe_sub]
  show ((Real.exp (g h - r - Real.log s) : ℝ) : EReal) = (if (s : EReal) = 0 then _ else _)
  rw [if_neg (by exact_mod_cast hpos.ne'), Real.exp_sub, Real.exp_log hpos, div_eq_mul_inv, EReal.coe_mul, EReal.coe_inv]

/-- and zero where it is not. -/
theorem exp_norm_not {h : Fin n} (hl : ¬ legal h) : Ideal.exp (norm (row legal g) h) = 0 := by
  unfold norm
  simp only [row, hl, if_false, EReal.bot_sub]
  rfl

/-- The entropy: the sum over the legal choices of the normalized entry times its share, against the sum over all of the
    normalized entry times its exponential. -/
theorem entropy_eq :
    (0 : EReal) - ∑ h, (if legal h then norm (row legal g) h * Ideal.div (Ideal.exp (row legal g h - peak (row legal g))) (mass (row legal g)) else 0)
      = -∑ h, max ⊥ (norm (row legal g) h) * Ideal.exp (norm (row legal g) h) := by
  rw [zero_sub]
  congr 1
  refine Finset.sum_congr rfl fun h _ => ?_
  by_cases hl : legal h
  · rw [if_pos hl, exp_norm legal g hl, max_eq_right bot_le]
  · rw [if_neg hl, exp_norm_not legal g hl, mul_zero]

/-- A sum that takes one entry and zeros elsewhere is that entry. -/
theorem pick (N : Fin n → EReal) (c : Fin n) : (∑ h, if h = c then N h else 0) = N c := by
  rw [Finset.sum_ite_eq' Finset.univ c N, if_pos (Finset.mem_univ c)]

/-- A finite sum of products of reals, with one more real, is a real. -/
theorem dot_real {d : ℕ} {u v : Fin d → EReal} {e : EReal} (hu : ∀ i, ∃ r : ℝ, u i = r) (hv : ∀ i, ∃ r : ℝ, v i = r) (he : ∃ r : ℝ, e = r) :
    ∃ r : ℝ, (∑ i, u i * v i) + e = r := by
  choose p hp using hu
  choose q hq using hv
  obtain ⟨c, rfl⟩ := he
  refine ⟨(∑ i, p i * q i) + c, ?_⟩
  rw [EReal.coe_add, coe_sum]
  congr 1
  refine Finset.sum_congr rfl fun i _ => ?_
  rw [hp, hq, EReal.coe_mul]

end Cert.Proof.Soft

end
-- ==== Proof.Ref.lean ====
/-
  The reference's three computed results, stage by stage, read at an index.
-/
module

public import proofs.«01_k».proof.Proof.Gen.ReferenceIdeal
public import proofs.«01_k».proof.Proof.Gen.ReferenceIdeal.Run
public import proofs.«01_k».proof.Proof.Soft
public import proofs.«01_k».proof.Proof.Pre
public import Idealize.ShloMosaic.Lib.Pointwise
public import Idealize.ShloMosaic.Lib.ReduceAll
public import Idealize.ShloMosaic.Lib.WordArith
public import Idealize.ShloMosaic.Lib.Routing.Ops

@[expose] public section

set_option maxRecDepth 16384

noncomputable section

namespace Cert.Proof.Ref

open Cert.ReferenceIdeal Cert.ReferenceIdeal.Gen Cert.ReferenceIdeal.Value Idealize.ShloMosaic Idealize.ShloMosaic.TcCoe

variable (x : FVec Ideal S131072x256 .f32) (a : IVec S65536 32) (k : IVec S65536x64 32) (p : IVec S65536 32)
  (w : FVec Ideal S64x256 .f32) (b : FVec Ideal S64 .f32)

/-- The row numbers as a column, a negative one counted from the end. -/
def rowNo : IVec S65536x1 32 :=
  broadcastInDim S65536x1 ![0] bcast_S65536_S65536x1_0 (select (cmpi .slt a (broadcastInDim S65536 ![] bcast_S_S65536 (constantI S_ 32 0#32))) (addi a (broadcastInDim S65536 ![] bcast_S_S65536 (constantI S_ 32 131072#32))) a)

/-- Which of them are in range. -/
def rowIn : IVec S65536 1 :=
  Host.reduce IntOp.andi (andi (cmpi .sge (rowNo a) (broadcastInDim S65536x1 ![] bcast_S_S65536x1 (constantI S_ 32 0#32))) (cmpi .sle (rowNo a) (broadcastInDim S65536x1 ![0, 1] bcast_S1x1_S65536x1_0_1 (broadcastInDim S1x1 ![1] bcast_S1_S1x1_1 (constantI S1 32 131071#32))))) (constantI S_ 1 1#1) reducesTo_S65536x1_S65536_d1 h_S_

/-- The rows of `x` named by `a`. -/
def rows : FVec Ideal S65536x256 .f32 :=
  select (broadcastInDim S65536x256 ![0] bcast_S65536_S65536x256_0 (rowIn a)) (Host.gather gather_S131072x256_S65536x1_S65536x256_1_0_n_n_0_1_1256 x (rowNo a)) (broadcastInDim S65536x256 ![] bcast_S_S65536x256 (constant S_ .f32 0x7FC00000#32))

/-- The logits: the rows through the projection, minus infinity where the mask is zero. -/
def logits (X : FVec Ideal S65536x256 .f32) : FVec Ideal S65536x64 .f32 :=
  select (cmpi .eq k (broadcastInDim S65536x64 ![] bcast_S_S65536x64 (constantI S_ 32 0#32))) (broadcastInDim S65536x64 ![] bcast_S_S65536x64 (id (constant S_ .f32 0xFF800000#32))) (addf (Host.dotGeneral dot_S65536x256_S256x64_S65536x64_1_0_0_1_n_n none X (transpose S256x64 [1, 0] w transposes_S64x256_S256x64_1_0)) (broadcastInDim S65536x64 ![0, 1] bcast_S1x64_S65536x64_0_1 (broadcastInDim S1x64 ![1] bcast_S64_S1x64_1 b)))

/-- The logits less their row's greatest. -/
def centred (L : FVec Ideal S65536x64 .f32) : FVec Ideal S65536x64 .f32 :=
  subf L (broadcastInDim S65536x64 ![0, 1] bcast_S65536x1_S65536x64_0_1 (broadcastInDim S65536x1 ![0] bcast_S65536_S65536x1_0 (maximumf (broadcastInDim S65536 ![] bcast_S_S65536 (constant S_ .f32 0xFF800000#32)) (Host.reduce FloatOps.maximumf L (constant S_ .f32 0xFF800000#32) reducesTo_S65536x64_S65536_d1 h_S_))))

/-- Those less the logarithm of the sum of their exponentials. -/
def normed (L : FVec Ideal S65536x64 .f32) : FVec Ideal S65536x64 .f32 :=
  subf (centred L) (broadcastInDim S65536x64 ![0, 1] bcast_S65536x1_S65536x64_0_1 (Host.log (broadcastInDim S65536x1 ![0] bcast_S65536_S65536x1_0 (Host.reduceAdd (Host.exp (centred L)) (constant S_ .f32 0x00000000#32) reducesTo_S65536x64_S65536_d1 h_S_))))

/-- The choices as a column of columns, a negative one counted from the end. -/
def pickNo : IVec S65536x1x1 32 :=
  shapeCast S65536x1x1 (select (cmpi .slt (broadcastInDim S65536x1 ![0] bcast_S65536_S65536x1_0 p) (broadcastInDim S65536x1 ![] bcast_S_S65536x1 (constantI S_ 32 0#32))) (addi (broadcastInDim S65536x1 ![0] bcast_S65536_S65536x1_0 p) (broadcastInDim S65536x1 ![] bcast_S_S65536x1 (constantI S_ 32 64#32))) (broadcastInDim S65536x1 ![0] bcast_S65536_S65536x1_0 p)) shapeCasts_S65536x1_S65536x1x1

/-- Which of them are in range. -/
def pickIn : IVec S65536x1 1 :=
  Host.reduce IntOp.andi (andi (cmpi .sge (pickNo p) (broadcastInDim S65536x1x1 ![] bcast_S_S65536x1x1 (constantI S_ 32 0#32))) (cmpi .sle (pickNo p) (broadcastInDim S65536x1x1 ![0, 1, 2] bcast_S1x1x1_S65536x1x1_0_1_2 (broadcastInDim S1x1x1 ![2] bcast_S1_S1x1x1_2 (constantI S1 32 63#32))))) (constantI S_ 1 1#1) reducesTo_S65536x1x1_S65536x1_d2 h_S_

/-- Every row's entry at its choice. -/
def picked (N : FVec Ideal S65536x64 .f32) : FVec Ideal S65536 .f32 :=
  shapeCast S65536 (select (pickIn p) (Host.gather gather_S65536x64_S65536x1x1_S65536x1_n_1_0_0_1_2_11 N (pickNo p)) (broadcastInDim S65536x1 ![] bcast_S_S65536x1 (constant S_ .f32 0x7FC00000#32))) shapeCasts_S65536x1_S65536

/-- Every row's entropy. -/
def entropy (N : FVec Ideal S65536x64 .f32) : FVec Ideal S65536 .f32 :=
  Host.negf (Host.reduceAdd (mulf (maximumf (broadcastInDim S65536x64 ![] bcast_S_S65536x64 (id (constant S_ .f32 0xFF800000#32))) N) (Host.exp N)) (constant S_ .f32 0x00000000#32) reducesTo_S65536x64_S65536_d1 h_S_)

section
variable (m : (ℓ : Loc nD τ sig) → Buf (Elt Ideal) ℓ) (c : Dev nD)

/-- The normalized logits the reference returns, of its arguments. -/
def normOf : FVec Ideal S65536x64 .f32 :=
  normed (logits (m ((c.tc : Thread nD τ).loc main_arg2)) (m ((c.tc : Thread nD τ).loc main_arg4)) (m ((c.tc : Thread nD τ).loc main_arg5))
    (rows (m ((c.tc : Thread nD τ).loc main_arg0)) (m ((c.tc : Thread nD τ).loc main_arg1))))

theorem v9_eq : res_main_v9 m c = normOf m c := rfl
theorem v12_eq : res_main_v12 m c = picked (m ((c.tc : Thread nD τ).loc main_arg3)) (normOf m c) := rfl
theorem v17_eq : res_main_v17 m c = entropy (normOf m c) := rfl
end

/-! ## The stages at an index -/

variable {x a k p w b}

/-- The greatest of a row, as the host reduces it. -/
theorem reduce_max {r n : ℕ} (v : FVec Ideal ⟨2, ![r, n]⟩ .f32) (c : FVec Ideal ⟨0, ![]⟩ .f32)
    (h : Shape.ReducesTo ⟨2, ![r, n]⟩ [1] ⟨1, ![r]⟩) (hu : 0 < (⟨0, ![]⟩ : Shape).numel) (i : Fin r) :
    Host.reduce FloatOps.maximumf v c h hu (ix1 i) = Finset.fold max (c ix0) (fun k => v (ix2 i k)) Finset.univ := by
  pointwise []
  rw [show Shape.Idx.first hu = ix0 from Subsingleton.elim _ _]

theorem inf_at : constant (F := Ideal) S_ .f32 0xFF800000#32 ix0 = ⊥ := Pre.ofBits_bot

/-- The greatest of a row of logits. -/
theorem max_row (L : FVec Ideal S65536x64 .f32) (i : Fin 65536) :
    Host.reduce FloatOps.maximumf L (constant S_ .f32 0xFF800000#32) reducesTo_S65536x64_S65536_d1 h_S_ (ix1 i) = Soft.peak fun h => L (ix2 i h) := by
  rw [(reduce_max L _ _ _ i : _ = Finset.fold max (constant (F := Ideal) S_ .f32 0xFF800000#32 ix0) (fun h => L (ix2 i h)) Finset.univ), inf_at]
  rfl

/-- A value per row, at least minus infinity, repeated along the row. -/
theorem floor_at (M : FVec Ideal S65536 .f32) (i : Fin 65536) (j : Fin 64) :
    (broadcastInDim S65536x64 ![0, 1] bcast_S65536x1_S65536x64_0_1 (broadcastInDim S65536x1 ![0] bcast_S65536_S65536x1_0 (maximumf (broadcastInDim S65536 ![] bcast_S_S65536 (constant S_ .f32 0xFF800000#32)) M))) (ix2 i j) = max ⊥ (M (ix1 i)) := by
  pointwise []
  rw [Pre.ofBits_bot]

/-- A logit: minus infinity where the mask is zero, else the row's projection. -/
theorem logits_at (X : FVec Ideal S65536x256 .f32) (i : Fin 65536) (j : Fin 64) :
    logits k w b X (ix2 i j) = if k (ix2 i j) = 0#32 then ⊥ else (∑ d, X (ix2 i d) * w (ix2 j d)) + b (ix1 j) := by
  pointwise [logits]
  show Scalar.select (BitVec.ofBool (k (ix2 i j) == 0#32)) (Ideal.ofBits .f32 0xFF800000#32) _ = _
  rw [Pre.ofBits_bot]
  by_cases h : k (ix2 i j) = 0#32
  · rw [if_pos h, h]; rfl
  · rw [if_neg h, beq_eq_false_iff_ne.2 h]; rfl

/-- A logit less its row's greatest. -/
theorem centred_at (L : FVec Ideal S65536x64 .f32) (i : Fin 65536) (j : Fin 64) :
    centred L (ix2 i j) = L (ix2 i j) - Soft.peak fun h => L (ix2 i h) := by
  unfold centred
  refine congrArg (fun t => L (ix2 i j) - t) ((floor_at _ i j).trans ?_)
  rw [max_row, max_eq_right bot_le]

theorem normed_at (L : FVec Ideal S65536x64 .f32) (i : Fin 65536) (j : Fin 64) :
    normed L (ix2 i j) = L (ix2 i j) - (Soft.peak fun h => L (ix2 i h)) - Ideal.log (Soft.mass fun h => L (ix2 i h)) := by
  pointwise [normed]
  simp only [centred_at]; rfl

theorem entropy_at (N : FVec Ideal S65536x64 .f32) (i : Fin 65536) :
    entropy N (ix1 i) = -∑ h, max ⊥ (N (ix2 i h)) * Ideal.exp (N (ix2 i h)) := by
  pointwise [entropy]
  show -∑ x, max (Ideal.ofBits .f32 0xFF800000#32) _ * _ = _
  rw [Pre.ofBits_bot]

/-! ## The two reads by a number -/

theorem one_iff (q : Bool) : (BitVec.ofBool q = 1#1) ↔ q = true := by cases q <;> decide

/-- A word below `2 ^ 31` is not negative. -/
theorem not_neg {v : BitVec 32} (h : v.toNat < 2 ^ 31) : IntOp.cmpi .slt v 0#32 = 0#1 := by
  have : ¬ v.slt 0#32 = true := by
    rw [BitVec.slt_eq_decide, decide_eq_true_eq, BitVec.toInt_eq_toNat_cond]
    simp only [BitVec.toInt_zero]; split <;> omega
  show BitVec.ofBool (v.slt 0#32) = 0#1
  rw [Bool.eq_false_iff.2 this]; rfl

/-- A word of which the number is at most `n` is between zero and `n`. -/
theorem in_range {v : BitVec 32} {n : ℕ} (hn : n < 2 ^ 31) (h : v.toNat ≤ n) :
    IntOp.andi (IntOp.cmpi .sge v 0#32) (IntOp.cmpi .sle v (BitVec.ofNat 32 n)) = 1#1 := by
  have h1 : (0#32).sle v = true := by
    rw [BitVec.sle_eq_decide, decide_eq_true_eq, BitVec.toInt_eq_toNat_cond (x := v)]
    simp only [BitVec.toInt_zero]; split <;> omega
  have h2 : v.sle (BitVec.ofNat 32 n) = true := by
    rw [BitVec.sle_eq_decide, decide_eq_true_eq, BitVec.toInt_eq_toNat_cond, BitVec.toInt_eq_toNat_cond, BitVec.toNat_ofNat,
      Nat.mod_eq_of_lt (by omega)]
    split <;> split <;> omega
  show IntOp.andi (BitVec.ofBool ((0#32).sle v)) (BitVec.ofBool (v.sle (BitVec.ofNat 32 n))) = 1#1
  rw [h1, h2]; rfl

theorem rowNo_at (ha : ∀ i, (a i).toNat < 131072) (i : Fin 65536) (o : Fin 1) : rowNo a (ix2 i o) = a (ix1 i) := by
  pointwise [rowNo]
  rw [not_neg (lt_trans (ha _) (by norm_num))]; rfl

theorem rowIn_at (ha : ∀ i, (a i).toNat < 131072) (i : S65536.Idx) : rowIn a i = 1#1 := by
  unfold rowIn
  refine Host.reduce_andi_one _ _ _ _ _ rfl fun y => ?_
  have hy : rowNo a y = a (ix1 (y 0)) := by
    rw [show y = ix2 (y 0) (y 1) from by funext t; fin_cases t <;> rfl]; exact rowNo_at ha _ _
  show IntOp.andi (IntOp.cmpi .sge (rowNo a y) 0#32) (IntOp.cmpi .sle (rowNo a y) 131071#32) = 1#1
  rw [hy]; exact in_range (by norm_num) (Nat.le_of_lt_succ (ha _))

/-- A row of the input, where every row number is in range. -/
theorem rows_at (ha : ∀ i, (a i).toNat < 131072) (i : Fin 65536) (d : Fin 256) :
    rows x a (ix2 i d) = x (ix2 ⟨(a (ix1 i)).toNat, ha _⟩ d) := by
  pointwise [rows]
  rw [rowIn_at ha]
  refine Eq.trans (b := Host.gather gather_S131072x256_S65536x1_S65536x256_1_0_n_n_0_1_1256 x (rowNo a) (ix2 i d)) rfl ?_
  refine (Routing.gather_row _ rfl rfl rfl rfl rfl x (rowNo a) i d ⟨(a (ix1 i)).toNat, ha _⟩ ?_ (by norm_num)).trans rfl
  refine (rowNo_at ha i 0).trans ?_
  simp

/-- The dimension numbers of a read of one entry of every row. -/
abbrev alongDims (R C : ℕ) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Such a read at row `i`: the entry of that row that the number at row `i` names, where it names one. -/
theorem gather_along {R C : ℕ} (wf : GatherDims.WF ⟨2, ![R, C]⟩ ⟨3, ![R, 1, 1]⟩ ⟨2, ![R, 1]⟩ [] [1] [0] [1] [0] 2 ![1, 1])
    (v : FVec Ideal ⟨2, ![R, C]⟩ .f32) (idx : IVec ⟨3, ![R, 1, 1]⟩ 32) (i : Fin R) (c : Fin C)
    (hc : (idx (ix3 i 0 0)).toInt.toNat = c.val) :
    Host.gather (alongDims R C wf) v idx (ix2 i 0) = v (ix2 i c) := by
  unfold Host.gather
  refine congrArg v (funext fun t => Fin.ext ?_)
  show (alongDims R C wf).start (ix2 i 0) idx t + (alongDims R C wf).batchCoord (ix2 i 0) t + (alongDims R C wf).offCoord (ix2 i 0) t = _
  have h01 : t = 0 ∨ t = 1 := by
    match t with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 i 0) ⟨List.idxOf (1 : Fin 2) (alongDims R C wf).startIndexMap,
        List.idxOf_lt_length_iff.2 (List.mem_singleton.mpr rfl)⟩ = ix3 i 0 0 := by
      funext u; refine Fin.ext ?_
      match u with
      | ⟨0, _⟩ => rfl
      | ⟨1, _⟩ => rfl
      | ⟨2, _⟩ => rfl
    rw [hsi, hc]
    have := c.isLt
    show min c.val (C - 1) = c.val
    omega

theorem pickNo_at (hp : ∀ i, (p i).toNat < 64) (i : Fin 65536) (o o' : Fin 1) : pickNo p (ix3 i o o') = p (ix1 i) := by
  pointwise [pickNo]
  rw [not_neg (lt_trans (hp _) (by norm_num))]; rfl

theorem pickIn_at (hp : ∀ i, (p i).toNat < 64) (i : S65536x1.Idx) : pickIn p i = 1#1 := by
  unfold pickIn
  refine Host.reduce_andi_one _ _ _ _ _ rfl fun y => ?_
  have hy : pickNo p y = p (ix1 (y 0)) := by
    rw [show y = ix3 (y 0) (y 1) (y 2) from by funext t; fin_cases t <;> rfl]; exact pickNo_at hp _ _ _
  show IntOp.andi (IntOp.cmpi .sge (pickNo p y) 0#32) (IntOp.cmpi .sle (pickNo p y) 63#32) = 1#1
  rw [hy]; exact in_range (by norm_num) (Nat.le_of_lt_succ (hp _))

theorem toInt_small {v : BitVec 32} (h : v.toNat < 2 ^ 31) : v.toInt.toNat = v.toNat := by
  rw [BitVec.toInt_eq_toNat_cond]; split <;> omega

/-- A row's entry at its choice, where every choice is in range. -/
theorem picked_at (hp : ∀ i, (p i).toNat < 64) (N : FVec Ideal S65536x64 .f32) (i : Fin 65536) :
    picked p N (ix1 i) = N (ix2 i ⟨(p (ix1 i)).toNat, hp _⟩) := by
  pointwise [picked]
  rw [pickIn_at hp]
  refine Eq.trans (b := Host.gather gather_S65536x64_S65536x1x1_S65536x1_n_1_0_0_1_2_11 N (pickNo p) (ix2 i 0)) rfl ?_
  refine (gather_along gather_S65536x64_S65536x1x1_S65536x1_n_1_0_0_1_2_11.wf N (pickNo p) i ⟨(p (ix1 i)).toNat, hp _⟩ ?_)
  rw [pickNo_at hp i 0 0]
  exact toInt_small (lt_trans (hp _) (by norm_num))

end Cert.Proof.Ref

end
-- ==== Proof.Pay.lean ====
/-
  The kernel's two TensorCore payloads on the extended reals, read at an index.
-/
module

public import proofs.«01_k».proof.Proof.Gen.KernelIdeal.Skeleton
public import proofs.«01_k».proof.Proof.Gen.KernelIdeal
public import proofs.«01_k».proof.Proof.Soft
public import proofs.«01_k».proof.Proof.Pre
public import Idealize.ShloMosaic.Lib.Pointwise

@[expose] public section

set_option maxRecDepth 16384

noncomputable section

namespace Cert.Proof.Pay

open Cert.KernelIdeal Cert.KernelIdeal.Gen Idealize.ShloMosaic

/-- The projection of a block of 8192 rows: its first 4096 rows in the first 64 columns, -/
theorem proj_low (x : Vec Ideal S8192x256 .f32) (w : Vec Ideal S256x64 .bf16) (b : Vec Ideal S1x64 .f32) (r : Fin 4096) (h : Fin 64)
    (hh : h.val < 128) (hr : r.val < 8192) :
    k0_pay1 (F := Ideal) x w b (ix2 r ⟨h.val, hh⟩) = (∑ d, x (ix2 ⟨r.val, hr⟩ d) * w (ix2 d h)) + b (ix2 0 h) := by
  unfold k0_pay1
  pointwise []

/-- its last 4096 rows in the last. -/
theorem proj_high (x : Vec Ideal S8192x256 .f32) (w : Vec Ideal S256x64 .bf16) (b : Vec Ideal S1x64 .f32) (r : Fin 4096) (h : Fin 64)
    (hh : 64 + h.val < 128) (hr : 4096 + r.val < 8192) :
    k0_pay1 (F := Ideal) x w b (ix2 r ⟨64 + h.val, hh⟩) = (∑ d, x (ix2 ⟨4096 + r.val, hr⟩ d) * w (ix2 d h)) + b (ix2 0 h) := by
  unfold k0_pay1
  pointwise []

theorem ne_select {α : Type} (v : BitVec 32) (p q : α) : Scalar.select (IntOp.cmpi .ne v 0#32) p q = if v ≠ 0#32 then p else q := by
  by_cases h : v = 0#32
  · subst h; rfl
  · rw [if_pos h]
    show Scalar.select (BitVec.ofBool (v != 0#32)) p q = p
    rw [bne_iff_ne.2 h]; rfl

theorem eq_select {α : Type} (v u : BitVec 32) (p q : α) : Scalar.select (IntOp.cmpi .eq v u) p q = if v = u then p else q := by
  show Scalar.select (BitVec.ofBool (v == u)) p q = _
  by_cases h : v = u
  · rw [if_pos h, beq_iff_eq.2 h]; rfl
  · rw [if_neg h, beq_eq_false_iff_ne.2 h]; rfl

variable (g : Vec Ideal S8192x128 .f32) (v : Vec Ideal S8192 .i32) (m : Vec Ideal S64x8192 .i32) (a : Vec Ideal S8192 .i32)

/-- A sample's score for a choice: the entry of its row's half; minus infinity where the mask is zero. -/
def score (r : Fin 8192) (h : Fin 64) : EReal :=
  if m (ix2 h r) ≠ 0#32 then (if v (ix1 r) ≠ 0#32 then g (ix2 r ⟨64 + h.val, by have := h.isLt; omega⟩) else g (ix2 r ⟨h.val, by have := h.isLt; omega⟩)) else ⊥

theorem score_at (h : Fin 64) (r : Fin 8192) : k2_pay3 (F := Ideal) g v m (ix2 h r) = score g v m r h := by
  unfold k2_pay3 k2_pay2
  pointwise []
  rw [ne_select, ne_select, Pre.ofBits_bot]; rfl

/-- The greatest of a column. -/
theorem reduce_max {n r : ℕ} (v : FVec Ideal ⟨2, ![n, r]⟩ .f32) (h : Shape.Reduces ⟨2, ![n, r]⟩ [0] ⟨1, ![r]⟩) (i : Fin r)  :
    multiReduction (F := Ideal) .maximumf [0] ⟨1, ![r]⟩ v 0xFF800000#32 h (.inl rfl) rfl (ix1 i) = Soft.peak (fun k => v (ix2 k i)) := by
  pointwise []
  rw [Pre.ofBits_bot]; rfl

theorem peak_at (r : Fin 8192) : k2_pay4 (F := Ideal) g v m (ix2 0 r) = Soft.peak (score g v m r) := by
  unfold k2_pay4
  generalize hM : multiReduction .maximumf [0] S8192 (k2_pay3 (F := Ideal) g v m) 0xFF800000#32 reduces_S64x8192_S8192 (.inl rfl) rfl = M
  have hi : M (ix1 r) = Soft.peak (score g v m r) := by
    rw [← hM]
    refine (reduce_max _ _ r).trans ?_
    simp only [score_at]
  clear hM
  pointwise []
  exact hi

theorem exp_at (h : Fin 64) (r : Fin 8192) : k2_pay5 (F := Ideal) g v m (ix2 h r) = Ideal.exp (score g v m r h - Soft.peak (score g v m r)) := by
  unfold k2_pay5
  pointwise []
  rw [score_at, peak_at]

theorem mass_at (r : Fin 8192) : k2_pay6 (F := Ideal) g v m (ix2 0 r) = Soft.mass (score g v m r) := by
  unfold k2_pay6
  pointwise []
  simp only [exp_at]; rfl

/-- The normalized logits. -/
theorem norm_at (h : Fin 64) (r : Fin 8192) : k2_pay7 (F := Ideal) g v m (ix2 h r) = Soft.norm (score g v m r) h := by
  unfold k2_pay7
  pointwise []
  rw [score_at, peak_at, mass_at]; rfl

/-- The entropies. -/
theorem entropy_at (r : Fin 8192) : k2_pay8 (F := Ideal) g v m (ix1 r)
    = 0 - ∑ h, if m (ix2 h r) ≠ 0#32 then Soft.norm (score g v m r) h * Ideal.div (Ideal.exp (score g v m r h - Soft.peak (score g v m r))) (Soft.mass (score g v m r)) else 0 := by
  unfold k2_pay8 k2_pay2
  pointwise []
  simp only [ne_select, norm_at, exp_at, mass_at]

/-- The log-probabilities of the choices taken. -/
theorem logp_at (N : FVec Ideal S64x8192 .f32) (r : Fin 8192) : k2_pay1 (F := Ideal) N a (ix1 r)
    = ∑ h : Fin 64, if BitVec.ofNat 32 h.val = a (ix1 r) then N (ix2 h r) else 0 := by
  unfold k2_pay1
  pointwise []
  simp only [eq_select]

end Cert.Proof.Pay

end
-- ==== Proof.Value.lean ====
/-
  The kernel's results at an index, at the ideal floats: the gathered entry of a sample is the score the problem gives its
  actor, whichever half of the row holds it, so the head's three outputs are the normalized logits, the log-probability
  of the action taken and the entropy of the masked scores.
-/
module

public import proofs.«01_k».proof.Proof.KI.Main
public import proofs.«01_k».proof.Proof.Pay

@[expose] public section

set_option maxRecDepth 16384

noncomputable section

namespace Cert.Proof.KernelIdeal

open Cert.KernelIdeal Cert.KernelIdeal.Gen Cert.Proof.Whole Cert.Proof.Arith
open Idealize.ShloMosaic hiding ix0 ix1 ix2 ix3
open Idealize.ShloMosaic.TcCoe Idealize.ShloMosaic.ValueIdx
open Idealize.ShloMosaic.StableHlo (after launchContents)

/-! ## The projected table, at an actor -/

section
variable (x : FVec Ideal S131072x256 .f32) (w : FVec Ideal S256x64 .bf16) (b : FVec Ideal S1x64 .f32)

/-- The first half of a row is the projection of its first input row; -/
theorem table_low (R : Fin 65536) (h : Fin 64) (n : ℕ) (hn : n < 131072) (e : 8192 * (R.val / 4096) + R.val % 4096 = n) :
    table (F := Ideal) x w b (ix2 R ⟨h.val, by have := h.isLt; omega⟩) = (∑ d, x (ix2 ⟨n, hn⟩ d) * w (ix2 d h)) + b (ix2 0 h) := by
  subst e
  unfold table
  have t := Pay.proj_low (fun j => x (ix2 ⟨8192 * (R.val / 4096) + (j 0).val, row_lt R (j 0)⟩ (j 1))) w b
    ⟨R.val % 4096, Nat.mod_lt _ (by decide)⟩ h (by have := h.isLt; omega) (by show R.val % 4096 < 8192; omega)
  simp only [ix2_eq_valueIdx] at t
  exact t

/-- its second half that of the row 4096 further. -/
theorem table_high (R : Fin 65536) (h : Fin 64) (n : ℕ) (hn : n < 131072) (e : 8192 * (R.val / 4096) + (4096 + R.val % 4096) = n) :
    table (F := Ideal) x w b (ix2 R ⟨64 + h.val, by have := h.isLt; omega⟩) = (∑ d, x (ix2 ⟨n, hn⟩ d) * w (ix2 d h)) + b (ix2 0 h) := by
  subst e
  unfold table
  have t := Pay.proj_high (fun j => x (ix2 ⟨8192 * (R.val / 4096) + (j 0).val, row_lt R (j 0)⟩ (j 1))) w b
    ⟨R.val % 4096, Nat.mod_lt _ (by decide)⟩ h (by have := h.isLt; omega) (by show 4096 + R.val % 4096 < 8192; omega)
  simp only [ix2_eq_valueIdx] at t
  exact t

/-- The half that an actor's bit chooses, of the row that is the actor's, is the actor's projection. -/
theorem table_actor (a : BitVec 32) (ha : a.toNat < 131072) (R : Fin 65536) (hR : R.val = (rowWord a).toNat) (h : Fin 64) :
    (if halfWord a ≠ 0#32 then table (F := Ideal) x w b (ix2 R ⟨64 + h.val, by have := h.isLt; omega⟩)
      else table (F := Ideal) x w b (ix2 R ⟨h.val, by have := h.isLt; omega⟩))
      = (∑ d, x (ix2 ⟨a.toNat, ha⟩ d) * w (ix2 d h)) + b (ix2 0 h) := by
  rw [rowWord_toNat ha] at hR
  have hh := halfWord_toNat ha
  by_cases c : halfWord a = 0#32
  · rw [if_neg (not_not.2 c)]
    rw [c] at hh
    have hz : a.toNat % 8192 / 4096 = 0 := hh.symm
    exact table_low x w b R h _ ha (by rw [hR]; omega)
  · rw [if_pos c]
    have hz : a.toNat % 8192 / 4096 ≠ 0 := fun e => c (by
      apply BitVec.eq_of_toNat_eq; rw [hh, e]; rfl)
    exact table_high x w b R h _ ha (by rw [hR]; omega)
end

/-! ## What the head reads -/

variable (m : (ℓ : Loc nD τ sig) → Buf (Elt Ideal) ℓ) (d : Dev nD)

/-- The arguments, each at its literal shape. -/
abbrev argX : FVec Ideal S131072x256 .f32 := m ((d.tc : Thread nD τ).loc main_arg0)
abbrev argA : IVec S65536 32 := m ((d.tc : Thread nD τ).loc main_arg1)
abbrev argK : IVec S65536x64 32 := m ((d.tc : Thread nD τ).loc main_arg2)
abbrev argP : IVec S65536 32 := m ((d.tc : Thread nD τ).loc main_arg3)
abbrev argW : FVec Ideal S64x256 .f32 := m ((d.tc : Thread nD τ).loc main_arg4)
abbrev argB : FVec Ideal S64 .f32 := m ((d.tc : Thread nD τ).loc main_arg5)

/-- The problem's score of a choice for a sample: its actor's row of the input times the choice's weights, and the choice's offset. -/
def lin (hA : ∀ i, (argA m d i).toNat < 131072) (s : Fin 65536) (h : Fin 64) : EReal :=
  (∑ e, argX m d (ix2 ⟨(argA m d (ix1 s)).toNat, hA _⟩ e) * argW m d (ix2 h e)) + argB m d (ix1 h)

theorem A5_v12 : A5 m d (Proc.devRef .tc main_v12) = gathered (table (argX m d) (A1 m d (Proc.devRef .tc main_v1)) (A1 m d (Proc.devRef .tc main_v2)))
    (A3 m d (Proc.devRef .tc main_v11)) := by
  unfold A5; rw [keep2 _ (by decide)]
  unfold A4; rw [put_self]
  congr 1

theorem A5_v10 (i : S65536.Idx) : A5 m d (Proc.devRef .tc main_v10) i = halfWord (argA m d i) := by
  unfold A5; rw [keep2 _ (by decide)]
  unfold A4; rw [put_ne _ _ _ (by decide)]
  unfold A3; rw [read_half]
  unfold A2; rw [put_ne _ _ _ (by decide)]
  unfold A1; rw [keep0 _ (by decide) (by decide) (by decide)]

theorem A5_v13 (h : Fin 64) (s : Fin 65536) : A5 m d (Proc.devRef .tc main_v13) (ix2 h s) = argK m d (ix2 s h) := by
  unfold A5; rw [read2]
  unfold A4; rw [put_ne _ _ _ (by decide)]
  unfold A3; rw [keep1 _ (by simp)]
  unfold A2; rw [put_ne _ _ _ (by decide)]
  unfold A1; rw [keep0 _ (by decide) (by decide) (by decide)]

theorem A5_arg3 : A5 m d (Proc.devRef .tc main_arg3) = argP m d := by
  unfold A5; rw [keep2 _ (by decide)]
  unfold A4; rw [put_ne _ _ _ (by decide)]
  unfold A3; rw [keep1 _ (by simp)]
  unfold A2; rw [put_ne _ _ _ (by decide)]
  unfold A1; rw [keep0 _ (by decide) (by decide) (by decide)]

/-- The weights the projection reads are the argument's, transposed; -/
theorem weight_at (e : Fin 256) (h : Fin 64) : A1 m d (Proc.devRef .tc main_v1) (ix2 e h) = argW m d (ix2 h e) := by
  unfold A1; rw [read0_w]
  show argW m d _ = _
  exact congrArg _ (by funext a; fin_cases a <;> rfl)

/-- and its offset the argument. -/
theorem offset_at (h : Fin 64) : A1 m d (Proc.devRef .tc main_v2) (ix2 0 h) = argB m d (ix1 h) := by
  unfold A1; rw [read0_b]

theorem smp_pos (s : Fin 65536) : smp (s.val / 8192) (blk_lt s) (pos s) = s := Fin.ext (by
  show 8192 * (s.val / 8192) + s.val % 8192 = s.val
  omega)

/-- The masked scores the head finds for a sample are the problem's. -/
theorem score_eq (hA : ∀ i, (argA m d i).toNat < 131072) (s : Fin 65536) (h : Fin 64) :
    Pay.score (rowsAt (F := Ideal) (A5 m d (Proc.devRef .tc main_v12)) s) (vecAt (F := Ideal) (A5 m d (Proc.devRef .tc main_v10)) s)
      (colsAt (F := Ideal) (A5 m d (Proc.devRef .tc main_v13)) s) (pos s) h
      = if argK m d (ix2 s h) ≠ 0#32 then lin m d hA s h else ⊥ := by
  unfold Pay.score
  have hm : colsAt (F := Ideal) (A5 m d (Proc.devRef .tc main_v13)) s (Idealize.ShloMosaic.ix2 h (pos s)) = argK m d (ix2 s h) := by
    show A5 m d (Proc.devRef .tc main_v13) (ix2 h (smp (s.val / 8192) (blk_lt s) (pos s))) = _
    rw [smp_pos, A5_v13]
  have hv : vecAt (F := Ideal) (A5 m d (Proc.devRef .tc main_v10)) s (Idealize.ShloMosaic.ix1 (pos s)) = halfWord (argA m d (ix1 s)) := by
    show A5 m d (Proc.devRef .tc main_v10) (ix1 (smp (s.val / 8192) (blk_lt s) (pos s))) = _
    rw [smp_pos, A5_v10]
  have hlt : (A3 m d (Proc.devRef .tc main_v11) (ix2 0 s) : BitVec 32).toNat = (rowWord (argA m d (ix1 s))).toNat := by rw [A3_rows]
  have hg (c : Fin 128) : rowsAt (F := Ideal) (A5 m d (Proc.devRef .tc main_v12)) s (Idealize.ShloMosaic.ix2 (pos s) c)
      = table (argX m d) (A1 m d (Proc.devRef .tc main_v1)) (A1 m d (Proc.devRef .tc main_v2))
          (ix2 ⟨(A3 m d (Proc.devRef .tc main_v11) (ix2 0 s) : BitVec 32).toNat % 65536, Nat.mod_lt _ (by decide)⟩ c) := by
    show A5 m d (Proc.devRef .tc main_v12) (ix2 (smp (s.val / 8192) (blk_lt s) (pos s)) c) = _
    rw [smp_pos, A5_v12]; rfl
  rw [hm, hv, hg, hg]
  refine if_congr Iff.rfl ?_ rfl
  rw [table_actor _ _ _ _ (hA _) _ (by
    show (A3 m d (Proc.devRef .tc main_v11) (ix2 0 s) : BitVec 32).toNat % 65536 = _
    rw [hlt, Nat.mod_eq_of_lt (rowWord_lt (hA _))])]
  unfold lin
  rw [offset_at]
  exact congrArg (· + _) (Finset.sum_congr rfl fun e _ => by rw [weight_at])

/-! ## The results -/

variable (hA : ∀ i, (argA m d i).toNat < 131072)

/-- A sample's masked scores. -/
def scores (s : Fin 65536) (h : Fin 64) : EReal := if argK m d (ix2 s h) ≠ 0#32 then lin m d hA s h else ⊥

theorem score_fn (s : Fin 65536) : Pay.score (rowsAt (F := Ideal) (A5 m d (Proc.devRef .tc main_v12)) s)
    (vecAt (F := Ideal) (A5 m d (Proc.devRef .tc main_v10)) s) (colsAt (F := Ideal) (A5 m d (Proc.devRef .tc main_v13)) s) (pos s) = scores m d hA s :=
  funext fun h => score_eq m d hA s h

/-- The normalized logits are the scores', normalized; -/
theorem norm_result (s : Fin 65536) (h : Fin 64) : A7 m d (Proc.devRef .tc main_v15) (ix2 s h) = Soft.norm (scores m d hA s) h := by
  unfold A7; rw [read3]
  unfold A6; rw [put_ne _ _ _ (by decide), put_ne _ _ _ (by decide), put_self]
  have t := Pay.norm_at (rowsAt (F := Ideal) (A5 m d (Proc.devRef .tc main_v12)) s) (vecAt (F := Ideal) (A5 m d (Proc.devRef .tc main_v10)) s)
    (colsAt (F := Ideal) (A5 m d (Proc.devRef .tc main_v13)) s) h (pos s)
  rw [score_fn m d hA s, ix2_eq_valueIdx] at t
  exact t

/-- the log-probability is the normalized logit of the action taken; -/
theorem logp_result (hP : ∀ i, (argP m d i).toNat < 64) (s : Fin 65536) :
    A7 m d (Proc.devRef .tc main_v14_1) (ix1 s) = Soft.norm (scores m d hA s) ⟨(argP m d (ix1 s)).toNat, hP _⟩ := by
  unfold A7; rw [keep3 _ (by decide)]
  unfold A6; rw [put_ne _ _ _ (by decide), put_self]
  have t := Pay.logp_at (vecAt (F := Ideal) (A5 m d (Proc.devRef .tc main_arg3)) s)
    (k2_pay7 (F := Ideal) (rowsAt (F := Ideal) (A5 m d (Proc.devRef .tc main_v12)) s) (vecAt (F := Ideal) (A5 m d (Proc.devRef .tc main_v10)) s)
      (colsAt (F := Ideal) (A5 m d (Proc.devRef .tc main_v13)) s)) (pos s)
  have hv : vecAt (F := Ideal) (A5 m d (Proc.devRef .tc main_arg3)) s (Idealize.ShloMosaic.ix1 (pos s)) = argP m d (ix1 s) := by
    show A5 m d (Proc.devRef .tc main_arg3) (ix1 (smp (s.val / 8192) (blk_lt s) (pos s))) = _
    rw [smp_pos, A5_arg3]
  have hc (h : Fin 64) : BitVec.ofNat 32 h.val = argP m d (ix1 s) ↔ h = ⟨(argP m d (ix1 s)).toNat, hP _⟩ := by
    constructor
    · intro e
      apply Fin.ext
      show h.val = (argP m d (ix1 s)).toNat
      rw [← e, BitVec.toNat_ofNat, Nat.mod_eq_of_lt (by have := h.isLt; omega)]
    · intro e
      rw [e]
      show BitVec.ofNat 32 (argP m d (ix1 s)).toNat = _
      simp
  simp only [Pay.norm_at, score_fn m d hA s, hv, hc] at t
  rw [Soft.pick, ix1_eq_valueIdx] at t
  exact t

/-- and the entropy is minus the sum of the probabilities, each times its logarithm, over the legal choices. -/
theorem entr_result (s : Fin 65536) : A7 m d (Proc.devRef .tc main_v14_2) (ix1 s)
    = 0 - ∑ h, if argK m d (ix2 s h) ≠ 0#32 then Soft.norm (scores m d hA s) h
        * Ideal.div (Ideal.exp (scores m d hA s h - Soft.peak (scores m d hA s))) (Soft.mass (scores m d hA s)) else 0 := by
  unfold A7; rw [keep3 _ (by decide)]
  unfold A6; rw [put_self]
  have t := Pay.entropy_at (rowsAt (F := Ideal) (A5 m d (Proc.devRef .tc main_v12)) s) (vecAt (F := Ideal) (A5 m d (Proc.devRef .tc main_v10)) s)
    (colsAt (F := Ideal) (A5 m d (Proc.devRef .tc main_v13)) s) (pos s)
  have hm (h : Fin 64) : colsAt (F := Ideal) (A5 m d (Proc.devRef .tc main_v13)) s (Idealize.ShloMosaic.ix2 h (pos s)) = argK m d (ix2 s h) := by
    show A5 m d (Proc.devRef .tc main_v13) (ix2 h (smp (s.val / 8192) (blk_lt s) (pos s))) = _
    rw [smp_pos, A5_v13]
  simp only [score_fn m d hA s, hm] at t
  rw [ix1_eq_valueIdx] at t
  exact t

end Cert.Proof.KernelIdeal

end
-- ==== Proof.Equal.lean ====
/-
  The value claim: at the ideal floats, from equal arguments in the ranges the precondition states, the kernel and the
  reference leave the same four results.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Pre
public import proofs.«01_k».proof.Proof.Soft
public import proofs.«01_k».proof.Proof.Ref
public import proofs.«01_k».proof.Proof.Value
public import proofs.«01_k».proof.Proof.KI.Run

@[expose] public section

set_option maxRecDepth 16384

noncomputable section

namespace Cert.Proof

open Idealize.ShloMosaic Idealize.ShloMosaic.TcCoe Idealize.SL.Sem
open Cert.Proof.KernelIdeal (argX argA argK argP argW argB lin scores A7)

/-- The kernel's side at the ideal floats, and the reference's. -/
abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

variable (m : MemK) (d : Dev 1)

/-- What the precondition says of a device's arguments. -/
structure Ranged : Prop where
  actor : ∀ i, (argA m d i).toNat < 131072
  action : ∀ i, (argP m d i).toNat < 64
  x_real : ∀ i, ∃ r : ℝ, argX m d i = r
  w_real : ∀ i, ∃ r : ℝ, argW m d i = r
  b_real : ∀ i, ∃ r : ℝ, argB m d i = r

variable {m d}

/-- Real inputs make real scores, so a sample's masked scores are a row of reals with minus infinity at the illegal choices. -/
theorem scores_row (h : Ranged m d) (s : Fin 65536) :
    ∃ g : Fin 64 → ℝ, scores m d h.actor s = Soft.row (fun j => argK m d (ValueIdx.ix2 s j) ≠ 0#32) g := by
  have hr (j : Fin 64) : ∃ r : ℝ, lin m d h.actor s j = r := Soft.dot_real (fun _ => h.x_real _) (fun _ => h.w_real _) (h.b_real _)
  choose g hg using hr
  refine ⟨g, funext fun j => ?_⟩
  unfold scores Soft.row
  rw [hg]

/-- The reference's normalized logits from the kernel's arguments. -/
def refNorm (m : MemK) (d : Dev 1) : FVec Ideal Cert.ReferenceIdeal.S65536x64 .f32 :=
  Ref.normed (Ref.logits (argK m d) (argW m d) (argB m d) (Ref.rows (argX m d) (argA m d)))

/-- The reference's masked logits are the kernel's scores; -/
theorem logits_scores (h : Ranged m d) (s : Fin 65536) (j : Fin 64) :
    Ref.logits (argK m d) (argW m d) (argB m d) (Ref.rows (argX m d) (argA m d)) (ix2 s j) = scores m d h.actor s j := by
  rw [Ref.logits_at]
  unfold scores lin
  simp only [Ref.rows_at h.actor]
  simp only [ix2_eq_valueIdx, ix1_eq_valueIdx]
  by_cases c : argK m d (ValueIdx.ix2 s j) = 0#32
  · rw [if_pos c, if_neg (not_not.2 c)]
  · rw [if_neg c, if_pos c]

/-- normalized, they are the kernel's normalized scores. -/
theorem refNorm_at (h : Ranged m d) (s : Fin 65536) (j : Fin 64) : refNorm m d (ix2 s j) = Soft.norm (scores m d h.actor s) j := by
  unfold refNorm
  rw [Ref.normed_at]
  simp only [logits_scores h]
  obtain ⟨g, hg⟩ := scores_row h s
  rw [show (fun j => scores m d h.actor s j) = scores m d h.actor s from rfl, hg]
  exact Soft.norm_eq _ g j

/-- The normalized logits agree, -/
theorem norm_agree (h : Ranged m d) : A7 m d (Proc.devRef .tc Cert.KernelIdeal.main_v15) = refNorm m d := by
  have key (s : Fin 65536) (j : Fin 64) : A7 m d (Proc.devRef .tc Cert.KernelIdeal.main_v15) (ValueIdx.ix2 s j) = refNorm m d (ValueIdx.ix2 s j) := by
    rw [← ix2_eq_valueIdx s j, refNorm_at h, ix2_eq_valueIdx]
    exact KernelIdeal.norm_result m d h.actor s j
  funext i
  rw [show i = ValueIdx.ix2 (i 0) (i 1) from by funext a; fin_cases a <;> rfl]
  exact key _ _

/-- so do the log-probabilities, -/
theorem logp_agree (h : Ranged m d) : A7 m d (Proc.devRef .tc Cert.KernelIdeal.main_v14_1) = Ref.picked (argP m d) (refNorm m d) := by
  have key (s : Fin 65536) : A7 m d (Proc.devRef .tc Cert.KernelIdeal.main_v14_1) (ValueIdx.ix1 s) = Ref.picked (argP m d) (refNorm m d) (ValueIdx.ix1 s) := by
    have e := Ref.picked_at h.action (refNorm m d) s
    rw [refNorm_at h] at e
    simp only [ix1_eq_valueIdx] at e
    exact (KernelIdeal.logp_result m d h.actor h.action s).trans e.symm
  funext i
  rw [show i = ValueIdx.ix1 (i 0) from by funext a; fin_cases a; rfl]
  exact key _

/-- and the entropies. -/
theorem entr_agree (h : Ranged m d) : A7 m d (Proc.devRef .tc Cert.KernelIdeal.main_v14_2) = Ref.entropy (refNorm m d) := by
  have key (s : Fin 65536) : A7 m d (Proc.devRef .tc Cert.KernelIdeal.main_v14_2) (ValueIdx.ix1 s) = Ref.entropy (refNorm m d) (ValueIdx.ix1 s) := by
    have e := KernelIdeal.entr_result m d h.actor s
    have e' := Ref.entropy_at (refNorm m d) s
    simp only [refNorm_at h, ix1_eq_valueIdx] at e'
    obtain ⟨g, hg⟩ := scores_row h s
    rw [hg] at e e'
    exact e.trans ((Soft.entropy_eq _ g).trans e'.symm)
  funext i
  rw [show i = ValueIdx.ix1 (i 0) from by funext a; fin_cases a; rfl]
  exact key _

/-- The value claim, for all four results. -/
theorem algebraic : Cert.algebraic_KernelIdeal_ReferenceIdeal_pre_inputs_ranged := by
  intro m g m' g' hpre harg
  have hr (c : Dev 1) : Ranged m c := by
    obtain ⟨h1, h2, h3, h4, h5⟩ := Pre.ranged (hpre c)
    exact ⟨h1, h2, h3, h4, h5⟩
  have hn (c : Dev 1) : Ref.normOf m' c = refNorm m c := by
    obtain ⟨e0, e1, e2, e3, e4, e5⟩ := harg c
    unfold Ref.normOf refNorm
    rw [e0, e1, e2, e4, e5]
  refine ⟨fun c => argP m c, fun c => A7 m c (Proc.devRef .tc Cert.KernelIdeal.main_v14_1),
    fun c => A7 m c (Proc.devRef .tc Cert.KernelIdeal.main_v14_2), fun c => A7 m c (Proc.devRef .tc Cert.KernelIdeal.main_v15), ?_, ?_⟩
  · refine (θ_run _ _ _).mono (fun r h c => ?_) (KernelIdeal.run_main m g fun c i => (hr c).actor i)
    exact ⟨KernelIdeal.arg_of_QC m h c (by simp), KernelIdeal.mem_of_QC m h c _ (by decide), KernelIdeal.mem_of_QC m h c _ (by decide),
      KernelIdeal.mem_of_QC m h c _ (by decide), (KernelIdeal.kept_of_QC m h).1 c⟩
  · refine (θ_run _ _ _).mono (fun r h c => ?_) (Cert.ReferenceIdeal.Value.run m' g')
    obtain ⟨h3, h12, h17, h9, hk⟩ := h c
    refine ⟨h3.trans (harg c).2.2.2.1, h12.trans ?_, h17.trans ?_, h9.trans ?_, hk⟩
    · rw [Ref.v12_eq, hn, (harg c).2.2.2.1]; exact (logp_agree (hr c)).symm
    · rw [Ref.v17_eq, hn]; exact (entr_agree (hr c)).symm
    · rw [Ref.v9_eq, hn]; exact (norm_agree (hr c)).symm

end Cert.Proof

end
-- ==== Proof.lean ====
/-
  The certificate: the side conditions the programs and the preconditions state, the five frames, the (empty) list of
  rewrites between the kernel and its ideal reading, and the value claim for all four results.
-/
module

public import proofs.«01_k».proof.Defs
public import proofs.«01_k».proof.Proof.Frames
public import proofs.«01_k».proof.Proof.Equal

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Pre.factsNamed, Pre.factsRanged,
  frame_kernel, frame_kernelIdeal, frame_kernelIdeal_ranged, frame_reference, frame_reference_ranged, trivial, algebraic⟩

end Cert.Proof

end
